-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2048 : Shape := ⟨2, ![256, 2048]⟩
abbrev S2048x256 : Shape := ⟨2, ![2048, 256]⟩
abbrev S7 : Shape := ⟨1, ![7]⟩
abbrev S6 : Shape := ⟨1, ![6]⟩
abbrev S_ : Shape := ⟨0, ![]⟩
abbrev S1 : Shape := ⟨1, ![1]⟩
abbrev S256x256 : Shape := ⟨2, ![256, 256]⟩

abbrev nBuf : Space → Nat
  | .hbm => 2
  | .vmem => 2
  | .smem => 0
  | _ => 0

abbrev bufTy : (tb : Table) → Fin (tcTables nBuf tb) → BufTy
  | .hbm, ⟨0, _⟩ => ⟨S256x2048, .f32⟩
  | .hbm, ⟨1, _⟩ => ⟨S2048x256, .f32⟩
  | .local _ .vmem, ⟨0, _⟩ => ⟨S256x2048, .f32⟩
  | .local _ .vmem, ⟨1, _⟩ => ⟨S2048x256, .f32⟩
  | _, _ => ⟨S256x2048, .f32⟩

abbrev bufScoped : (cs : CoreSpace) → Fin (nBuf (.core cs)) → Bool
  | .vmem, ⟨0, _⟩ => true
  | .vmem, ⟨1, _⟩ => true
  | _, _ => false

abbrev semScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 7 17 bufScoped semScoped dmaSemScoped tileCredit tileCredit_eq_zero tileCredit_pos).withBarriers [(0, 6)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 6

abbrev nD : Nat := 8
abbrev τ : Topo := Topo.v7x

variable {F : FTy → Type} [FloatOps F]

abbrev grid0 : Pipeline.Grid := .none

def k0_dev1 (d0 : Dev nD) : Nat :=
  let c0_i32_187 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_0 : BitVec 32 := 0#32
  let v7 : BitVec 1 := Scalar.cmpi .slt v2 c0_i32_0
  let v8 : BitVec 32 := Scalar.extui v7
  let v9 : BitVec 32 := Scalar.subi v6 v8
  let c4_i32 : BitVec 32 := 4#32
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v2 c4_i32
  let c0_i32_3 : BitVec 32 := 0#32
  let v17 : BitVec 1 := Scalar.cmpi .ne v16 c0_i32_3
  let v18 : BitVec 1 := Scalar.andi v15 v17
  let v4 : BitVec 32 := Scalar.divsi v2 c4_i32
  let c1_i32_4 : BitVec 32 := 1#32
  let v19 : BitVec 32 := Scalar.subi v4 c1_i32_4
  let v20 : BitVec 32 := Scalar.select v18 v19 v4
  let c0_i32_18 : BitVec 32 := 0#32
  let v37 : BitVec 32 := Scalar.addi v20 c0_i32_18
  let c2_i32_19 : BitVec 32 := 2#32
  let v38 : BitVec 32 := Scalar.muli c2_i32_19 v20
  let c0_i32_20 : BitVec 32 := 0#32
  let v39 : BitVec 32 := Scalar.muli v38 c0_i32_20
  let v40 : BitVec 32 := Scalar.subi v37 v39
  let v46 : BitVec 32 := Scalar.muli c4_i32_22 v40
  let c3_i32 : BitVec 32 := 3#32
  let c4_i32_5 : BitVec 32 := 4#32
  let v21 : BitVec 32 := Scalar.muli c4_i32_5 v20
  let v22 : BitVec 32 := Scalar.subi v2 v21
  let c2_i32_9 : BitVec 32 := 2#32
  let v27 : BitVec 1 := Scalar.cmpi .sge v22 c2_i32_9
  let c1_i32_10 : BitVec 32 := 1#32
  let c0_i32_11 : BitVec 32 := 0#32
  let v28 : BitVec 32 := Scalar.select v27 c1_i32_10 c0_i32_11
  let c0_i32_15 : BitVec 32 := 0#32
  let v33 : BitVec 32 := Scalar.addi v28 c0_i32_15
  let c2_i32_16 : BitVec 32 := 2#32
  let v34 : BitVec 32 := Scalar.muli c2_i32_16 v28
  let c0_i32_17 : BitVec 32 := 0#32
  let v35 : BitVec 32 := Scalar.muli v34 c0_i32_17
  let v36 : BitVec 32 := Scalar.subi v33 v35
  let v41 : BitVec 32 := Scalar.muli c3_i32 v36
  let c1_i32_6 : BitVec 32 := 1#32
  let v23 : BitVec 1 := Scalar.cmpi .eq v22 c1_i32_6
  let c2_i32 : BitVec 32 := 2#32
  let v24 : BitVec 1 := Scalar.cmpi .eq v22 c2_i32
  let v25 : BitVec 1 := Scalar.ori v23 v24
  let c1_i32_7 : BitVec 32 := 1#32
  let c0_i32_8 : BitVec 32 := 0#32
  let v26 : BitVec 32 := Scalar.select v25 c1_i32_7 c0_i32_8
  let c1_i32_12 : BitVec 32 := 1#32
  let v29 : BitVec 32 := Scalar.addi v26 c1_i32_12
  let c2_i32_13 : BitVec 32 := 2#32
  let v30 : BitVec 32 := Scalar.muli c2_i32_13 v26
  let c1_i32_14 : BitVec 32 := 1#32
  let v31 : BitVec 32 := Scalar.muli v30 c1_i32_14
  let v32 : BitVec 32 := Scalar.subi v29 v31
  let v42 : BitVec 32 := Scalar.addi v41 v32
  let c2_i32_21 : BitVec 32 := 2#32
  let v43 : BitVec 32 := Scalar.muli c2_i32_21 v32
  let v44 : BitVec 32 := Scalar.muli v43 v36
  let v45 : BitVec 32 := Scalar.subi v42 v44
  let v47 : BitVec 32 := Scalar.addi v46 v45
  let c1_i32_186 : BitVec 32 := 1#32
  let v312 : BitVec 32 := Scalar.muli v47 c1_i32_186
  let v313 : BitVec 32 := Scalar.addi c0_i32_187 v312
  v313.toNat
def k0_dev2 (d0 : Dev nD) : Nat :=
  let c0_i32_191 : BitVec 32 := 0#32
  let c4_i32_49 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_24 : BitVec 32 := 0#32
  let v49 : BitVec 1 := Scalar.cmpi .sgt v2 c0_i32_24
  let v50 : BitVec 32 := Scalar.extui v49
  let c0_i32_25 : BitVec 32 := 0#32
  let v51 : BitVec 1 := Scalar.cmpi .slt v2 c0_i32_25
  let v52 : BitVec 32 := Scalar.extui v51
  let v53 : BitVec 32 := Scalar.subi v50 v52
  let c4_i32_23 : BitVec 32 := 4#32
  let c0_i32_26 : BitVec 32 := 0#32
  let v54 : BitVec 1 := Scalar.cmpi .sgt c4_i32_23 c0_i32_26
  let v55 : BitVec 32 := Scalar.extui v54
  let c0_i32_27 : BitVec 32 := 0#32
  let v56 : BitVec 1 := Scalar.cmpi .slt c4_i32_23 c0_i32_27
  let v57 : BitVec 32 := Scalar.extui v56
  let v58 : BitVec 32 := Scalar.subi v55 v57
  let v59 : BitVec 1 := Scalar.cmpi .ne v53 v58
  let v60 : BitVec 32 := Scalar.remsi v2 c4_i32_23
  let c0_i32_28 : BitVec 32 := 0#32
  let v61 : BitVec 1 := Scalar.cmpi .ne v60 c0_i32_28
  let v62 : BitVec 1 := Scalar.andi v59 v61
  let v48 : BitVec 32 := Scalar.divsi v2 c4_i32_23
  let c1_i32_29 : BitVec 32 := 1#32
  let v63 : BitVec 32 := Scalar.subi v48 c1_i32_29
  let v64 : BitVec 32 := Scalar.select v62 v63 v48
  let c0_i32_44 : BitVec 32 := 0#32
  let v81 : BitVec 32 := Scalar.addi v64 c0_i32_44
  let c2_i32_45 : BitVec 32 := 2#32
  let v82 : BitVec 32 := Scalar.muli c2_i32_45 v64
  let c0_i32_46 : BitVec 32 := 0#32
  let v83 : BitVec 32 := Scalar.muli v82 c0_i32_46
  let v84 : BitVec 32 := Scalar.subi v81 v83
  let v90 : BitVec 32 := Scalar.muli c4_i32_49 v84
  let c3_i32_47 : BitVec 32 := 3#32
  let c4_i32_30 : BitVec 32 := 4#32
  let v65 : BitVec 32 := Scalar.muli c4_i32_30 v64
  let v66 : BitVec 32 := Scalar.subi v2 v65
  let c2_i32_35 : BitVec 32 := 2#32
  let v71 : BitVec 1 := Scalar.cmpi .sge v66 c2_i32_35
  let c1_i32_36 : BitVec 32 := 1#32
  let c0_i32_37 : BitVec 32 := 0#32
  let v72 : BitVec 32 := Scalar.select v71 c1_i32_36 c0_i32_37
  let c1_i32_41 : BitVec 32 := 1#32
  let v77 : BitVec 32 := Scalar.addi v72 c1_i32_41
  let c2_i32_42 : BitVec 32 := 2#32
  let v78 : BitVec 32 := Scalar.muli c2_i32_42 v72
  let c1_i32_43 : BitVec 32 := 1#32
  let v79 : BitVec 32 := Scalar.muli v78 c1_i32_43
  let v80 : BitVec 32 := Scalar.subi v77 v79
  let v85 : BitVec 32 := Scalar.muli c3_i32_47 v80
  let c1_i32_31 : BitVec 32 := 1#32
  let v67 : BitVec 1 := Scalar.cmpi .eq v66 c1_i32_31
  let c2_i32_32 : BitVec 32 := 2#32
  let v68 : BitVec 1 := Scalar.cmpi .eq v66 c2_i32_32
  let v69 : BitVec 1 := Scalar.ori v67 v68
  let c1_i32_33 : BitVec 32 := 1#32
  let c0_i32_34 : BitVec 32 := 0#32
  let v70 : BitVec 32 := Scalar.select v69 c1_i32_33 c0_i32_34
  let c0_i32_38 : BitVec 32 := 0#32
  let v73 : BitVec 32 := Scalar.addi v70 c0_i32_38
  let c2_i32_39 : BitVec 32 := 2#32
  let v74 : BitVec 32 := Scalar.muli c2_i32_39 v70
  let c0_i32_40 : BitVec 32 := 0#32
  let v75 : BitVec 32 := Scalar.muli v74 c0_i32_40
  let v76 : BitVec 32 := Scalar.subi v73 v75
  let v86 : BitVec 32 := Scalar.addi v85 v76
  let c2_i32_48 : BitVec 32 := 2#32
  let v87 : BitVec 32 := Scalar.muli c2_i32_48 v76
  let v88 : BitVec 32 := Scalar.muli v87 v80
  let v89 : BitVec 32 := Scalar.subi v86 v88
  let v91 : BitVec 32 := Scalar.addi v90 v89
  let c1_i32_190 : BitVec 32 := 1#32
  let v316 : BitVec 32 := Scalar.muli v91 c1_i32_190
  let v317 : BitVec 32 := Scalar.addi c0_i32_191 v316
  v317.toNat
def k0_dev3 (d0 : Dev nD) : Nat :=
  let c0_i32_195 : BitVec 32 := 0#32
  let c4_i32_76 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_51 : BitVec 32 := 0#32
  let v93 : BitVec 1 := Scalar.cmpi .sgt v2 c0_i32_51
  let v94 : BitVec 32 := Scalar.extui v93
  let c0_i32_52 : BitVec 32 := 0#32
  let v95 : BitVec 1 := Scalar.cmpi .slt v2 c0_i32_52
  let v96 : BitVec 32 := Scalar.extui v95
  let v97 : BitVec 32 := Scalar.subi v94 v96
  let c4_i32_50 : BitVec 32 := 4#32
  let c0_i32_53 : BitVec 32 := 0#32
  let v98 : BitVec 1 := Scalar.cmpi .sgt c4_i32_50 c0_i32_53
  let v99 : BitVec 32 := Scalar.extui v98
  let c0_i32_54 : BitVec 32 := 0#32
  let v100 : BitVec 1 := Scalar.cmpi .slt c4_i32_50 c0_i32_54
  let v101 : BitVec 32 := Scalar.extui v100
  let v102 : BitVec 32 := Scalar.subi v99 v101
  let v103 : BitVec 1 := Scalar.cmpi .ne v97 v102
  let v104 : BitVec 32 := Scalar.remsi v2 c4_i32_50
  let c0_i32_55 : BitVec 32 := 0#32
  let v105 : BitVec 1 := Scalar.cmpi .ne v104 c0_i32_55
  let v106 : BitVec 1 := Scalar.andi v103 v105
  let v92 : BitVec 32 := Scalar.divsi v2 c4_i32_50
  let c1_i32_56 : BitVec 32 := 1#32
  let v107 : BitVec 32 := Scalar.subi v92 c1_i32_56
  let v108 : BitVec 32 := Scalar.select v106 v107 v92
  let c1_i32_71 : BitVec 32 := 1#32
  let v125 : BitVec 32 := Scalar.addi v108 c1_i32_71
  let c2_i32_72 : BitVec 32 := 2#32
  let v126 : BitVec 32 := Scalar.muli c2_i32_72 v108
  let c1_i32_73 : BitVec 32 := 1#32
  let v127 : BitVec 32 := Scalar.muli v126 c1_i32_73
  let v128 : BitVec 32 := Scalar.subi v125 v127
  let v134 : BitVec 32 := Scalar.muli c4_i32_76 v128
  let c3_i32_74 : BitVec 32 := 3#32
  let c4_i32_57 : BitVec 32 := 4#32
  let v109 : BitVec 32 := Scalar.muli c4_i32_57 v108
  let v110 : BitVec 32 := Scalar.subi v2 v109
  let c2_i32_62 : BitVec 32 := 2#32
  let v115 : BitVec 1 := Scalar.cmpi .sge v110 c2_i32_62
  let c1_i32_63 : BitVec 32 := 1#32
  let c0_i32_64 : BitVec 32 := 0#32
  let v116 : BitVec 32 := Scalar.select v115 c1_i32_63 c0_i32_64
  let c0_i32_68 : BitVec 32 := 0#32
  let v121 : BitVec 32 := Scalar.addi v116 c0_i32_68
  let c2_i32_69 : BitVec 32 := 2#32
  let v122 : BitVec 32 := Scalar.muli c2_i32_69 v116
  let c0_i32_70 : BitVec 32 := 0#32
  let v123 : BitVec 32 := Scalar.muli v122 c0_i32_70
  let v124 : BitVec 32 := Scalar.subi v121 v123
  let v129 : BitVec 32 := Scalar.muli c3_i32_74 v124
  let c1_i32_58 : BitVec 32 := 1#32
  let v111 : BitVec 1 := Scalar.cmpi .eq v110 c1_i32_58
  let c2_i32_59 : BitVec 32 := 2#32
  let v112 : BitVec 1 := Scalar.cmpi .eq v110 c2_i32_59
  let v113 : BitVec 1 := Scalar.ori v111 v112
  let c1_i32_60 : BitVec 32 := 1#32
  let c0_i32_61 : BitVec 32 := 0#32
  let v114 : BitVec 32 := Scalar.select v113 c1_i32_60 c0_i32_61
  let c0_i32_65 : BitVec 32 := 0#32
  let v117 : BitVec 32 := Scalar.addi v114 c0_i32_65
  let c2_i32_66 : BitVec 32 := 2#32
  let v118 : BitVec 32 := Scalar.muli c2_i32_66 v114
  let c0_i32_67 : BitVec 32 := 0#32
  let v119 : BitVec 32 := Scalar.muli v118 c0_i32_67
  let v120 : BitVec 32 := Scalar.subi v117 v119
  let v130 : BitVec 32 := Scalar.addi v129 v120
  let c2_i32_75 : BitVec 32 := 2#32
  let v131 : BitVec 32 := Scalar.muli c2_i32_75 v120
  let v132 : BitVec 32 := Scalar.muli v131 v124
  let v133 : BitVec 32 := Scalar.subi v130 v132
  let v135 : BitVec 32 := Scalar.addi v134 v133
  let c1_i32_194 : BitVec 32 := 1#32
  let v320 : BitVec 32 := Scalar.muli v135 c1_i32_194
  let v321 : BitVec 32 := Scalar.addi c0_i32_195 v320
  v321.toNat
def k0_dev4 (d0 : Dev nD) : Nat :=
  let c0_i32_199 : BitVec 32 := 0#32
  let c4_i32_103 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_78 : BitVec 32 := 0#32
  let v137 : BitVec 1 := Scalar.cmpi .sgt v2 c0_i32_78
  let v138 : BitVec 32 := Scalar.extui v137
  let c0_i32_79 : BitVec 32 := 0#32
  let v139 : BitVec 1 := Scalar.cmpi .slt v2 c0_i32_79
  let v140 : BitVec 32 := Scalar.extui v139
  let v141 : BitVec 32 := Scalar.subi v138 v140
  let c4_i32_77 : BitVec 32 := 4#32
  let c0_i32_80 : BitVec 32 := 0#32
  let v142 : BitVec 1 := Scalar.cmpi .sgt c4_i32_77 c0_i32_80
  let v143 : BitVec 32 := Scalar.extui v142
  let c0_i32_81 : BitVec 32 := 0#32
  let v144 : BitVec 1 := Scalar.cmpi .slt c4_i32_77 c0_i32_81
  let v145 : BitVec 32 := Scalar.extui v144
  let v146 : BitVec 32 := Scalar.subi v143 v145
  let v147 : BitVec 1 := Scalar.cmpi .ne v141 v146
  let v148 : BitVec 32 := Scalar.remsi v2 c4_i32_77
  let c0_i32_82 : BitVec 32 := 0#32
  let v149 : BitVec 1 := Scalar.cmpi .ne v148 c0_i32_82
  let v150 : BitVec 1 := Scalar.andi v147 v149
  let v136 : BitVec 32 := Scalar.divsi v2 c4_i32_77
  let c1_i32_83 : BitVec 32 := 1#32
  let v151 : BitVec 32 := Scalar.subi v136 c1_i32_83
  let v152 : BitVec 32 := Scalar.select v150 v151 v136
  let c0_i32_98 : BitVec 32 := 0#32
  let v169 : BitVec 32 := Scalar.addi v152 c0_i32_98
  let c2_i32_99 : BitVec 32 := 2#32
  let v170 : BitVec 32 := Scalar.muli c2_i32_99 v152
  let c0_i32_100 : BitVec 32 := 0#32
  let v171 : BitVec 32 := Scalar.muli v170 c0_i32_100
  let v172 : BitVec 32 := Scalar.subi v169 v171
  let v178 : BitVec 32 := Scalar.muli c4_i32_103 v172
  let c3_i32_101 : BitVec 32 := 3#32
  let c4_i32_84 : BitVec 32 := 4#32
  let v153 : BitVec 32 := Scalar.muli c4_i32_84 v152
  let v154 : BitVec 32 := Scalar.subi v2 v153
  let c2_i32_89 : BitVec 32 := 2#32
  let v159 : BitVec 1 := Scalar.cmpi .sge v154 c2_i32_89
  let c1_i32_90 : BitVec 32 := 1#32
  let c0_i32_91 : BitVec 32 := 0#32
  let v160 : BitVec 32 := Scalar.select v159 c1_i32_90 c0_i32_91
  let c1_i32_95 : BitVec 32 := 1#32
  let v165 : BitVec 32 := Scalar.addi v160 c1_i32_95
  let c2_i32_96 : BitVec 32 := 2#32
  let v166 : BitVec 32 := Scalar.muli c2_i32_96 v160
  let c1_i32_97 : BitVec 32 := 1#32
  let v167 : BitVec 32 := Scalar.muli v166 c1_i32_97
  let v168 : BitVec 32 := Scalar.subi v165 v167
  let v173 : BitVec 32 := Scalar.muli c3_i32_101 v168
  let c1_i32_85 : BitVec 32 := 1#32
  let v155 : BitVec 1 := Scalar.cmpi .eq v154 c1_i32_85
  let c2_i32_86 : BitVec 32 := 2#32
  let v156 : BitVec 1 := Scalar.cmpi .eq v154 c2_i32_86
  let v157 : BitVec 1 := Scalar.ori v155 v156
  let c1_i32_87 : BitVec 32 := 1#32
  let c0_i32_88 : BitVec 32 := 0#32
  let v158 : BitVec 32 := Scalar.select v157 c1_i32_87 c0_i32_88
  let c1_i32_92 : BitVec 32 := 1#32
  let v161 : BitVec 32 := Scalar.addi v158 c1_i32_92
  let c2_i32_93 : BitVec 32 := 2#32
  let v162 : BitVec 32 := Scalar.muli c2_i32_93 v158
  let c1_i32_94 : BitVec 32 := 1#32
  let v163 : BitVec 32 := Scalar.muli v162 c1_i32_94
  let v164 : BitVec 32 := Scalar.subi v161 v163
  let v174 : BitVec 32 := Scalar.addi v173 v164
  let c2_i32_102 : BitVec 32 := 2#32
  let v175 : BitVec 32 := Scalar.muli c2_i32_102 v164
  let v176 : BitVec 32 := Scalar.muli v175 v168
  let v177 : BitVec 32 := Scalar.subi v174 v176
  let v179 : BitVec 32 := Scalar.addi v178 v177
  let c1_i32_198 : BitVec 32 := 1#32
  let v324 : BitVec 32 := Scalar.muli v179 c1_i32_198
  let v325 : BitVec 32 := Scalar.addi c0_i32_199 v324
  v325.toNat
def k0_dev5 (d0 : Dev nD) : Nat :=
  let c0_i32_203 : BitVec 32 := 0#32
  let c4_i32_130 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let v181 : BitVec 1 := Scalar.cmpi .sgt v2 c0_i32_105
  let v182 : BitVec 32 := Scalar.extui v181
  let c0_i32_106 : BitVec 32 := 0#32
  let v183 : BitVec 1 := Scalar.cmpi .slt v2 c0_i32_106
  let v184 : BitVec 32 := Scalar.extui v183
  let v185 : BitVec 32 := Scalar.subi v182 v184
  let c4_i32_104 : BitVec 32 := 4#32
  let c0_i32_107 : BitVec 32 := 0#32
  let v186 : BitVec 1 := Scalar.cmpi .sgt c4_i32_104 c0_i32_107
  let v187 : BitVec 32 := Scalar.extui v186
  let c0_i32_108 : BitVec 32 := 0#32
  let v188 : BitVec 1 := Scalar.cmpi .slt c4_i32_104 c0_i32_108
  let v189 : BitVec 32 := Scalar.extui v188
  let v190 : BitVec 32 := Scalar.subi v187 v189
  let v191 : BitVec 1 := Scalar.cmpi .ne v185 v190
  let v192 : BitVec 32 := Scalar.remsi v2 c4_i32_104
  let c0_i32_109 : BitVec 32 := 0#32
  let v193 : BitVec 1 := Scalar.cmpi .ne v192 c0_i32_109
  let v194 : BitVec 1 := Scalar.andi v191 v193
  let v180 : BitVec 32 := Scalar.divsi v2 c4_i32_104
  let c1_i32_110 : BitVec 32 := 1#32
  let v195 : BitVec 32 := Scalar.subi v180 c1_i32_110
  let v196 : BitVec 32 := Scalar.select v194 v195 v180
  let c1_i32_125 : BitVec 32 := 1#32
  let v213 : BitVec 32 := Scalar.addi v196 c1_i32_125
  let c2_i32_126 : BitVec 32 := 2#32
  let v214 : BitVec 32 := Scalar.muli c2_i32_126 v196
  let c1_i32_127 : BitVec 32 := 1#32
  let v215 : BitVec 32 := Scalar.muli v214 c1_i32_127
  let v216 : BitVec 32 := Scalar.subi v213 v215
  let v222 : BitVec 32 := Scalar.muli c4_i32_130 v216
  let c3_i32_128 : BitVec 32 := 3#32
  let c4_i32_111 : BitVec 32 := 4#32
  let v197 : BitVec 32 := Scalar.muli c4_i32_111 v196
  let v198 : BitVec 32 := Scalar.subi v2 v197
  let c2_i32_116 : BitVec 32 := 2#32
  let v203 : BitVec 1 := Scalar.cmpi .sge v198 c2_i32_116
  let c1_i32_117 : BitVec 32 := 1#32
  let c0_i32_118 : BitVec 32 := 0#32
  let v204 : BitVec 32 := Scalar.select v203 c1_i32_117 c0_i32_118
  let c1_i32_122 : BitVec 32 := 1#32
  let v209 : BitVec 32 := Scalar.addi v204 c1_i32_122
  let c2_i32_123 : BitVec 32 := 2#32
  let v210 : BitVec 32 := Scalar.muli c2_i32_123 v204
  let c1_i32_124 : BitVec 32 := 1#32
  let v211 : BitVec 32 := Scalar.muli v210 c1_i32_124
  let v212 : BitVec 32 := Scalar.subi v209 v211
  let v217 : BitVec 32 := Scalar.muli c3_i32_128 v212
  let c1_i32_112 : BitVec 32 := 1#32
  let v199 : BitVec 1 := Scalar.cmpi .eq v198 c1_i32_112
  let c2_i32_113 : BitVec 32 := 2#32
  let v200 : BitVec 1 := Scalar.cmpi .eq v198 c2_i32_113
  let v201 : BitVec 1 := Scalar.ori v199 v200
  let c1_i32_114 : BitVec 32 := 1#32
  let c0_i32_115 : BitVec 32 := 0#32
  let v202 : BitVec 32 := Scalar.select v201 c1_i32_114 c0_i32_115
  let c0_i32_119 : BitVec 32 := 0#32
  let v205 : BitVec 32 := Scalar.addi v202 c0_i32_119
  let c2_i32_120 : BitVec 32 := 2#32
  let v206 : BitVec 32 := Scalar.muli c2_i32_120 v202
  let c0_i32_121 : BitVec 32 := 0#32
  let v207 : BitVec 32 := Scalar.muli v206 c0_i32_121
  let v208 : BitVec 32 := Scalar.subi v205 v207
  let v218 : BitVec 32 := Scalar.addi v217 v208
  let c2_i32_129 : BitVec 32 := 2#32
  let v219 : BitVec 32 := Scalar.muli c2_i32_129 v208
  let v220 : BitVec 32 := Scalar.muli v219 v212
  let v221 : BitVec 32 := Scalar.subi v218 v220
  let v223 : BitVec 32 := Scalar.addi v222 v221
  let c1_i32_202 : BitVec 32 := 1#32
  let v328 : BitVec 32 := Scalar.muli v223 c1_i32_202
  let v329 : BitVec 32 := Scalar.addi c0_i32_203 v328
  v329.toNat
def k0_dev6 (d0 : Dev nD) : Nat :=
  let c0_i32_207 : BitVec 32 := 0#32
  let c4_i32_157 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_132 : BitVec 32 := 0#32
  let v225 : BitVec 1 := Scalar.cmpi .sgt v2 c0_i32_132
  let v226 : BitVec 32 := Scalar.extui v225
  let c0_i32_133 : BitVec 32 := 0#32
  let v227 : BitVec 1 := Scalar.cmpi .slt v2 c0_i32_133
  let v228 : BitVec 32 := Scalar.extui v227
  let v229 : BitVec 32 := Scalar.subi v226 v228
  let c4_i32_131 : BitVec 32 := 4#32
  let c0_i32_134 : BitVec 32 := 0#32
  let v230 : BitVec 1 := Scalar.cmpi .sgt c4_i32_131 c0_i32_134
  let v231 : BitVec 32 := Scalar.extui v230
  let c0_i32_135 : BitVec 32 := 0#32
  let v232 : BitVec 1 := Scalar.cmpi .slt c4_i32_131 c0_i32_135
  let v233 : BitVec 32 := Scalar.extui v232
  let v234 : BitVec 32 := Scalar.subi v231 v233
  let v235 : BitVec 1 := Scalar.cmpi .ne v229 v234
  let v236 : BitVec 32 := Scalar.remsi v2 c4_i32_131
  let c0_i32_136 : BitVec 32 := 0#32
  let v237 : BitVec 1 := Scalar.cmpi .ne v236 c0_i32_136
  let v238 : BitVec 1 := Scalar.andi v235 v237
  let v224 : BitVec 32 := Scalar.divsi v2 c4_i32_131
  let c1_i32_137 : BitVec 32 := 1#32
  let v239 : BitVec 32 := Scalar.subi v224 c1_i32_137
  let v240 : BitVec 32 := Scalar.select v238 v239 v224
  let c1_i32_152 : BitVec 32 := 1#32
  let v257 : BitVec 32 := Scalar.addi v240 c1_i32_152
  let c2_i32_153 : BitVec 32 := 2#32
  let v258 : BitVec 32 := Scalar.muli c2_i32_153 v240
  let c1_i32_154 : BitVec 32 := 1#32
  let v259 : BitVec 32 := Scalar.muli v258 c1_i32_154
  let v260 : BitVec 32 := Scalar.subi v257 v259
  let v266 : BitVec 32 := Scalar.muli c4_i32_157 v260
  let c3_i32_155 : BitVec 32 := 3#32
  let c4_i32_138 : BitVec 32 := 4#32
  let v241 : BitVec 32 := Scalar.muli c4_i32_138 v240
  let v242 : BitVec 32 := Scalar.subi v2 v241
  let c2_i32_143 : BitVec 32 := 2#32
  let v247 : BitVec 1 := Scalar.cmpi .sge v242 c2_i32_143
  let c1_i32_144 : BitVec 32 := 1#32
  let c0_i32_145 : BitVec 32 := 0#32
  let v248 : BitVec 32 := Scalar.select v247 c1_i32_144 c0_i32_145
  let c0_i32_149 : BitVec 32 := 0#32
  let v253 : BitVec 32 := Scalar.addi v248 c0_i32_149
  let c2_i32_150 : BitVec 32 := 2#32
  let v254 : BitVec 32 := Scalar.muli c2_i32_150 v248
  let c0_i32_151 : BitVec 32 := 0#32
  let v255 : BitVec 32 := Scalar.muli v254 c0_i32_151
  let v256 : BitVec 32 := Scalar.subi v253 v255
  let v261 : BitVec 32 := Scalar.muli c3_i32_155 v256
  let c1_i32_139 : BitVec 32 := 1#32
  let v243 : BitVec 1 := Scalar.cmpi .eq v242 c1_i32_139
  let c2_i32_140 : BitVec 32 := 2#32
  let v244 : BitVec 1 := Scalar.cmpi .eq v242 c2_i32_140
  let v245 : BitVec 1 := Scalar.ori v243 v244
  let c1_i32_141 : BitVec 32 := 1#32
  let c0_i32_142 : BitVec 32 := 0#32
  let v246 : BitVec 32 := Scalar.select v245 c1_i32_141 c0_i32_142
  let c1_i32_146 : BitVec 32 := 1#32
  let v249 : BitVec 32 := Scalar.addi v246 c1_i32_146
  let c2_i32_147 : BitVec 32 := 2#32
  let v250 : BitVec 32 := Scalar.muli c2_i32_147 v246
  let c1_i32_148 : BitVec 32 := 1#32
  let v251 : BitVec 32 := Scalar.muli v250 c1_i32_148
  let v252 : BitVec 32 := Scalar.subi v249 v251
  let v262 : BitVec 32 := Scalar.addi v261 v252
  let c2_i32_156 : BitVec 32 := 2#32
  let v263 : BitVec 32 := Scalar.muli c2_i32_156 v252
  let v264 : BitVec 32 := Scalar.muli v263 v256
  let v265 : BitVec 32 := Scalar.subi v262 v264
  let v267 : BitVec 32 := Scalar.addi v266 v265
  let c1_i32_206 : BitVec 32 := 1#32
  let v332 : BitVec 32 := Scalar.muli v267 c1_i32_206
  let v333 : BitVec 32 := Scalar.addi c0_i32_207 v332
  v333.toNat
def k0_dev7 (d0 : Dev nD) : Nat :=
  let c0_i32_210 : BitVec 32 := 0#32
  let c4_i32_184 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_159 : BitVec 32 := 0#32
  let v269 : BitVec 1 := Scalar.cmpi .sgt v2 c0_i32_159
  let v270 : BitVec 32 := Scalar.extui v269
  let c0_i32_160 : BitVec 32 := 0#32
  let v271 : BitVec 1 := Scalar.cmpi .slt v2 c0_i32_160
  let v272 : BitVec 32 := Scalar.extui v271
  let v273 : BitVec 32 := Scalar.subi v270 v272
  let c4_i32_158 : BitVec 32 := 4#32
  let c0_i32_161 : BitVec 32 := 0#32
  let v274 : BitVec 1 := Scalar.cmpi .sgt c4_i32_158 c0_i32_161
  let v275 : BitVec 32 := Scalar.extui v274
  let c0_i32_162 : BitVec 32 := 0#32
  let v276 : BitVec 1 := Scalar.cmpi .slt c4_i32_158 c0_i32_162
  let v277 : BitVec 32 := Scalar.extui v276
  let v278 : BitVec 32 := Scalar.subi v275 v277
  let v279 : BitVec 1 := Scalar.cmpi .ne v273 v278
  let v280 : BitVec 32 := Scalar.remsi v2 c4_i32_158
  let c0_i32_163 : BitVec 32 := 0#32
  let v281 : BitVec 1 := Scalar.cmpi .ne v280 c0_i32_163
  let v282 : BitVec 1 := Scalar.andi v279 v281
  let v268 : BitVec 32 := Scalar.divsi v2 c4_i32_158
  let c1_i32_164 : BitVec 32 := 1#32
  let v283 : BitVec 32 := Scalar.subi v268 c1_i32_164
  let v284 : BitVec 32 := Scalar.select v282 v283 v268
  let c1_i32_179 : BitVec 32 := 1#32
  let v301 : BitVec 32 := Scalar.addi v284 c1_i32_179
  let c2_i32_180 : BitVec 32 := 2#32
  let v302 : BitVec 32 := Scalar.muli c2_i32_180 v284
  let c1_i32_181 : BitVec 32 := 1#32
  let v303 : BitVec 32 := Scalar.muli v302 c1_i32_181
  let v304 : BitVec 32 := Scalar.subi v301 v303
  let v310 : BitVec 32 := Scalar.muli c4_i32_184 v304
  let c3_i32_182 : BitVec 32 := 3#32
  let c4_i32_165 : BitVec 32 := 4#32
  let v285 : BitVec 32 := Scalar.muli c4_i32_165 v284
  let v286 : BitVec 32 := Scalar.subi v2 v285
  let c2_i32_170 : BitVec 32 := 2#32
  let v291 : BitVec 1 := Scalar.cmpi .sge v286 c2_i32_170
  let c1_i32_171 : BitVec 32 := 1#32
  let c0_i32_172 : BitVec 32 := 0#32
  let v292 : BitVec 32 := Scalar.select v291 c1_i32_171 c0_i32_172
  let c1_i32_176 : BitVec 32 := 1#32
  let v297 : BitVec 32 := Scalar.addi v292 c1_i32_176
  let c2_i32_177 : BitVec 32 := 2#32
  let v298 : BitVec 32 := Scalar.muli c2_i32_177 v292
  let c1_i32_178 : BitVec 32 := 1#32
  let v299 : BitVec 32 := Scalar.muli v298 c1_i32_178
  let v300 : BitVec 32 := Scalar.subi v297 v299
  let v305 : BitVec 32 := Scalar.muli c3_i32_182 v300
  let c1_i32_166 : BitVec 32 := 1#32
  let v287 : BitVec 1 := Scalar.cmpi .eq v286 c1_i32_166
  let c2_i32_167 : BitVec 32 := 2#32
  let v288 : BitVec 1 := Scalar.cmpi .eq v286 c2_i32_167
  let v289 : BitVec 1 := Scalar.ori v287 v288
  let c1_i32_168 : BitVec 32 := 1#32
  let c0_i32_169 : BitVec 32 := 0#32
  let v290 : BitVec 32 := Scalar.select v289 c1_i32_168 c0_i32_169
  let c1_i32_173 : BitVec 32 := 1#32
  let v293 : BitVec 32 := Scalar.addi v290 c1_i32_173
  let c2_i32_174 : BitVec 32 := 2#32
  let v294 : BitVec 32 := Scalar.muli c2_i32_174 v290
  let c1_i32_175 : BitVec 32 := 1#32
  let v295 : BitVec 32 := Scalar.muli v294 c1_i32_175
  let v296 : BitVec 32 := Scalar.subi v293 v295
  let v306 : BitVec 32 := Scalar.addi v305 v296
  let c2_i32_183 : BitVec 32 := 2#32
  let v307 : BitVec 32 := Scalar.muli c2_i32_183 v296
  let v308 : BitVec 32 := Scalar.muli v307 v300
  let v309 : BitVec 32 := Scalar.subi v306 v308
  let v311 : BitVec 32 := Scalar.addi v310 v309
  let c1_i32_209 : BitVec 32 := 1#32
  let v336 : BitVec 32 := Scalar.muli v311 c1_i32_209
  let v337 : BitVec 32 := Scalar.addi c0_i32_210 v336
  v337.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_212 : BitVec 32 := 256#32
  let v339 : BitVec 32 := Scalar.muli v2 c256_i32_212
  let c0_i32_213 : BitVec 32 := 0#32
  let v340 : BitVec 32 := Scalar.addi v339 c0_i32_213
  let c0_i32_218 : BitVec 32 := 0#32
  ![v340.toNat, 0]
def k0_off2 (d0 : Dev nD) (c0_i32_18 : BitVec 32) (c0_i32_20 : BitVec 32) (c0_i32_15 : BitVec 32) (c0_i32_17 : BitVec 32) (c1_i32_12 : BitVec 32) (c1_i32_14 : BitVec 32) : Fin 2 → Nat :=
  let c0_i32_219 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_0 : BitVec 32 := 0#32
  let v7 : BitVec 1 := Scalar.cmpi .slt v2 c0_i32_0
  let v8 : BitVec 32 := Scalar.extui v7
  let v9 : BitVec 32 := Scalar.subi v6 v8
  let c4_i32 : BitVec 32 := 4#32
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v2 c4_i32
  let c0_i32_3 : BitVec 32 := 0#32
  let v17 : BitVec 1 := Scalar.cmpi .ne v16 c0_i32_3
  let v18 : BitVec 1 := Scalar.andi v15 v17
  let v4 : BitVec 32 := Scalar.divsi v2 c4_i32
  let c1_i32_4 : BitVec 32 := 1#32
  let v19 : BitVec 32 := Scalar.subi v4 c1_i32_4
  let v20 : BitVec 32 := Scalar.select v18 v19 v4
  let v37 : BitVec 32 := Scalar.addi v20 c0_i32_18
  let c2_i32_19 : BitVec 32 := 2#32
  let v38 : BitVec 32 := Scalar.muli c2_i32_19 v20
  let v39 : BitVec 32 := Scalar.muli v38 c0_i32_20
  let v40 : BitVec 32 := Scalar.subi v37 v39
  let v46 : BitVec 32 := Scalar.muli c4_i32_22 v40
  let c3_i32 : BitVec 32 := 3#32
  let c4_i32_5 : BitVec 32 := 4#32
  let v21 : BitVec 32 := Scalar.muli c4_i32_5 v20
  let v22 : BitVec 32 := Scalar.subi v2 v21
  let c2_i32_9 : BitVec 32 := 2#32
  let v27 : BitVec 1 := Scalar.cmpi .sge v22 c2_i32_9
  let c1_i32_10 : BitVec 32 := 1#32
  let c0_i32_11 : BitVec 32 := 0#32
  let v28 : BitVec 32 := Scalar.select v27 c1_i32_10 c0_i32_11
  let v33 : BitVec 32 := Scalar.addi v28 c0_i32_15
  let c2_i32_16 : BitVec 32 := 2#32
  let v34 : BitVec 32 := Scalar.muli c2_i32_16 v28
  let v35 : BitVec 32 := Scalar.muli v34 c0_i32_17
  let v36 : BitVec 32 := Scalar.subi v33 v35
  let v41 : BitVec 32 := Scalar.muli c3_i32 v36
  let c1_i32_6 : BitVec 32 := 1#32
  let v23 : BitVec 1 := Scalar.cmpi .eq v22 c1_i32_6
  let c2_i32 : BitVec 32 := 2#32
  let v24 : BitVec 1 := Scalar.cmpi .eq v22 c2_i32
  let v25 : BitVec 1 := Scalar.ori v23 v24
  let c1_i32_7 : BitVec 32 := 1#32
  let c0_i32_8 : BitVec 32 := 0#32
  let v26 : BitVec 32 := Scalar.select v25 c1_i32_7 c0_i32_8
  let v29 : BitVec 32 := Scalar.addi v26 c1_i32_12
  let c2_i32_13 : BitVec 32 := 2#32
  let v30 : BitVec 32 := Scalar.muli c2_i32_13 v26
  let v31 : BitVec 32 := Scalar.muli v30 c1_i32_14
  let v32 : BitVec 32 := Scalar.subi v29 v31
  let v42 : BitVec 32 := Scalar.addi v41 v32
  let c2_i32_21 : BitVec 32 := 2#32
  let v43 : BitVec 32 := Scalar.muli c2_i32_21 v32
  let v44 : BitVec 32 := Scalar.muli v43 v36
  let v45 : BitVec 32 := Scalar.subi v42 v44
  let v47 : BitVec 32 := Scalar.addi v46 v45
  let c256_i32 : BitVec 32 := 256#32
  let v338 : BitVec 32 := Scalar.muli v47 c256_i32
  ![0, v338.toNat]
def k0_off2_at (r : Fin 7) : BitVec 32 × BitVec 32 × BitVec 32 × BitVec 32 × BitVec 32 × BitVec 32 :=
  if r.val < 3 then
    if r.val < 1 then
      (0#32, 0#32, 0#32, 0#32, 1#32, 1#32)
    else
      if r.val < 2 then
        (0#32, 0#32, 1#32, 1#32, 0#32, 0#32)
      else
        (1#32, 1#32, 0#32, 0#32, 0#32, 0#32)
  else
    if r.val < 5 then
      if r.val < 4 then
        (0#32, 0#32, 1#32, 1#32, 1#32, 1#32)
      else
        (1#32, 1#32, 1#32, 1#32, 0#32, 0#32)
    else
      if r.val < 6 then
        (1#32, 1#32, 0#32, 0#32, 1#32, 1#32)
      else
        (1#32, 1#32, 1#32, 1#32, 1#32, 1#32)
def k0_dev8 (d0 : Dev nD) : Nat :=
  let c0_i32_217 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_0 : BitVec 32 := 0#32
  let v7 : BitVec 1 := Scalar.cmpi .slt v2 c0_i32_0
  let v8 : BitVec 32 := Scalar.extui v7
  let v9 : BitVec 32 := Scalar.subi v6 v8
  let c4_i32 : BitVec 32 := 4#32
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v2 c4_i32
  let c0_i32_3 : BitVec 32 := 0#32
  let v17 : BitVec 1 := Scalar.cmpi .ne v16 c0_i32_3
  let v18 : BitVec 1 := Scalar.andi v15 v17
  let v4 : BitVec 32 := Scalar.divsi v2 c4_i32
  let c1_i32_4 : BitVec 32 := 1#32
  let v19 : BitVec 32 := Scalar.subi v4 c1_i32_4
  let v20 : BitVec 32 := Scalar.select v18 v19 v4
  let c0_i32_18 : BitVec 32 := 0#32
  let v37 : BitVec 32 := Scalar.addi v20 c0_i32_18
  let c2_i32_19 : BitVec 32 := 2#32
  let v38 : BitVec 32 := Scalar.muli c2_i32_19 v20
  let c0_i32_20 : BitVec 32 := 0#32
  let v39 : BitVec 32 := Scalar.muli v38 c0_i32_20
  let v40 : BitVec 32 := Scalar.subi v37 v39
  let v46 : BitVec 32 := Scalar.muli c4_i32_22 v40
  let c3_i32 : BitVec 32 := 3#32
  let c4_i32_5 : BitVec 32 := 4#32
  let v21 : BitVec 32 := Scalar.muli c4_i32_5 v20
  let v22 : BitVec 32 := Scalar.subi v2 v21
  let c2_i32_9 : BitVec 32 := 2#32
  let v27 : BitVec 1 := Scalar.cmpi .sge v22 c2_i32_9
  let c1_i32_10 : BitVec 32 := 1#32
  let c0_i32_11 : BitVec 32 := 0#32
  let v28 : BitVec 32 := Scalar.select v27 c1_i32_10 c0_i32_11
  let c0_i32_15 : BitVec 32 := 0#32
  let v33 : BitVec 32 := Scalar.addi v28 c0_i32_15
  let c2_i32_16 : BitVec 32 := 2#32
  let v34 : BitVec 32 := Scalar.muli c2_i32_16 v28
  let c0_i32_17 : BitVec 32 := 0#32
  let v35 : BitVec 32 := Scalar.muli v34 c0_i32_17
  let v36 : BitVec 32 := Scalar.subi v33 v35
  let v41 : BitVec 32 := Scalar.muli c3_i32 v36
  let c1_i32_6 : BitVec 32 := 1#32
  let v23 : BitVec 1 := Scalar.cmpi .eq v22 c1_i32_6
  let c2_i32 : BitVec 32 := 2#32
  let v24 : BitVec 1 := Scalar.cmpi .eq v22 c2_i32
  let v25 : BitVec 1 := Scalar.ori v23 v24
  let c1_i32_7 : BitVec 32 := 1#32
  let c0_i32_8 : BitVec 32 := 0#32
  let v26 : BitVec 32 := Scalar.select v25 c1_i32_7 c0_i32_8
  let c1_i32_12 : BitVec 32 := 1#32
  let v29 : BitVec 32 := Scalar.addi v26 c1_i32_12
  let c2_i32_13 : BitVec 32 := 2#32
  let v30 : BitVec 32 := Scalar.muli c2_i32_13 v26
  let c1_i32_14 : BitVec 32 := 1#32
  let v31 : BitVec 32 := Scalar.muli v30 c1_i32_14
  let v32 : BitVec 32 := Scalar.subi v29 v31
  let v42 : BitVec 32 := Scalar.addi v41 v32
  let c2_i32_21 : BitVec 32 := 2#32
  let v43 : BitVec 32 := Scalar.muli c2_i32_21 v32
  let v44 : BitVec 32 := Scalar.muli v43 v36
  let v45 : BitVec 32 := Scalar.subi v42 v44
  let v47 : BitVec 32 := Scalar.addi v46 v45
  let c1_i32_216 : BitVec 32 := 1#32
  let v341 : BitVec 32 := Scalar.muli v47 c1_i32_216
  let v342 : BitVec 32 := Scalar.addi c0_i32_217 v341
  v342.toNat
def k0_dev9 (d0 : Dev nD) : Nat :=
  let c0_i32_229 : BitVec 32 := 0#32
  let c4_i32_49 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_24 : BitVec 32 := 0#32
  let v49 : BitVec 1 := Scalar.cmpi .sgt v2 c0_i32_24
  let v50 : BitVec 32 := Scalar.extui v49
  let c0_i32_25 : BitVec 32 := 0#32
  let v51 : BitVec 1 := Scalar.cmpi .slt v2 c0_i32_25
  let v52 : BitVec 32 := Scalar.extui v51
  let v53 : BitVec 32 := Scalar.subi v50 v52
  let c4_i32_23 : BitVec 32 := 4#32
  let c0_i32_26 : BitVec 32 := 0#32
  let v54 : BitVec 1 := Scalar.cmpi .sgt c4_i32_23 c0_i32_26
  let v55 : BitVec 32 := Scalar.extui v54
  let c0_i32_27 : BitVec 32 := 0#32
  let v56 : BitVec 1 := Scalar.cmpi .slt c4_i32_23 c0_i32_27
  let v57 : BitVec 32 := Scalar.extui v56
  let v58 : BitVec 32 := Scalar.subi v55 v57
  let v59 : BitVec 1 := Scalar.cmpi .ne v53 v58
  let v60 : BitVec 32 := Scalar.remsi v2 c4_i32_23
  let c0_i32_28 : BitVec 32 := 0#32
  let v61 : BitVec 1 := Scalar.cmpi .ne v60 c0_i32_28
  let v62 : BitVec 1 := Scalar.andi v59 v61
  let v48 : BitVec 32 := Scalar.divsi v2 c4_i32_23
  let c1_i32_29 : BitVec 32 := 1#32
  let v63 : BitVec 32 := Scalar.subi v48 c1_i32_29
  let v64 : BitVec 32 := Scalar.select v62 v63 v48
  let c0_i32_44 : BitVec 32 := 0#32
  let v81 : BitVec 32 := Scalar.addi v64 c0_i32_44
  let c2_i32_45 : BitVec 32 := 2#32
  let v82 : BitVec 32 := Scalar.muli c2_i32_45 v64
  let c0_i32_46 : BitVec 32 := 0#32
  let v83 : BitVec 32 := Scalar.muli v82 c0_i32_46
  let v84 : BitVec 32 := Scalar.subi v81 v83
  let v90 : BitVec 32 := Scalar.muli c4_i32_49 v84
  let c3_i32_47 : BitVec 32 := 3#32
  let c4_i32_30 : BitVec 32 := 4#32
  let v65 : BitVec 32 := Scalar.muli c4_i32_30 v64
  let v66 : BitVec 32 := Scalar.subi v2 v65
  let c2_i32_35 : BitVec 32 := 2#32
  let v71 : BitVec 1 := Scalar.cmpi .sge v66 c2_i32_35
  let c1_i32_36 : BitVec 32 := 1#32
  let c0_i32_37 : BitVec 32 := 0#32
  let v72 : BitVec 32 := Scalar.select v71 c1_i32_36 c0_i32_37
  let c1_i32_41 : BitVec 32 := 1#32
  let v77 : BitVec 32 := Scalar.addi v72 c1_i32_41
  let c2_i32_42 : BitVec 32 := 2#32
  let v78 : BitVec 32 := Scalar.muli c2_i32_42 v72
  let c1_i32_43 : BitVec 32 := 1#32
  let v79 : BitVec 32 := Scalar.muli v78 c1_i32_43
  let v80 : BitVec 32 := Scalar.subi v77 v79
  let v85 : BitVec 32 := Scalar.muli c3_i32_47 v80
  let c1_i32_31 : BitVec 32 := 1#32
  let v67 : BitVec 1 := Scalar.cmpi .eq v66 c1_i32_31
  let c2_i32_32 : BitVec 32 := 2#32
  let v68 : BitVec 1 := Scalar.cmpi .eq v66 c2_i32_32
  let v69 : BitVec 1 := Scalar.ori v67 v68
  let c1_i32_33 : BitVec 32 := 1#32
  let c0_i32_34 : BitVec 32 := 0#32
  let v70 : BitVec 32 := Scalar.select v69 c1_i32_33 c0_i32_34
  let c0_i32_38 : BitVec 32 := 0#32
  let v73 : BitVec 32 := Scalar.addi v70 c0_i32_38
  let c2_i32_39 : BitVec 32 := 2#32
  let v74 : BitVec 32 := Scalar.muli c2_i32_39 v70
  let c0_i32_40 : BitVec 32 := 0#32
  let v75 : BitVec 32 := Scalar.muli v74 c0_i32_40
  let v76 : BitVec 32 := Scalar.subi v73 v75
  let v86 : BitVec 32 := Scalar.addi v85 v76
  let c2_i32_48 : BitVec 32 := 2#32
  let v87 : BitVec 32 := Scalar.muli c2_i32_48 v76
  let v88 : BitVec 32 := Scalar.muli v87 v80
  let v89 : BitVec 32 := Scalar.subi v86 v88
  let v91 : BitVec 32 := Scalar.addi v90 v89
  let c1_i32_228 : BitVec 32 := 1#32
  let v354 : BitVec 32 := Scalar.muli v91 c1_i32_228
  let v355 : BitVec 32 := Scalar.addi c0_i32_229 v354
  v355.toNat
def k0_dev10 (d0 : Dev nD) : Nat :=
  let c0_i32_241 : BitVec 32 := 0#32
  let c4_i32_76 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_51 : BitVec 32 := 0#32
  let v93 : BitVec 1 := Scalar.cmpi .sgt v2 c0_i32_51
  let v94 : BitVec 32 := Scalar.extui v93
  let c0_i32_52 : BitVec 32 := 0#32
  let v95 : BitVec 1 := Scalar.cmpi .slt v2 c0_i32_52
  let v96 : BitVec 32 := Scalar.extui v95
  let v97 : BitVec 32 := Scalar.subi v94 v96
  let c4_i32_50 : BitVec 32 := 4#32
  let c0_i32_53 : BitVec 32 := 0#32
  let v98 : BitVec 1 := Scalar.cmpi .sgt c4_i32_50 c0_i32_53
  let v99 : BitVec 32 := Scalar.extui v98
  let c0_i32_54 : BitVec 32 := 0#32
  let v100 : BitVec 1 := Scalar.cmpi .slt c4_i32_50 c0_i32_54
  let v101 : BitVec 32 := Scalar.extui v100
  let v102 : BitVec 32 := Scalar.subi v99 v101
  let v103 : BitVec 1 := Scalar.cmpi .ne v97 v102
  let v104 : BitVec 32 := Scalar.remsi v2 c4_i32_50
  let c0_i32_55 : BitVec 32 := 0#32
  let v105 : BitVec 1 := Scalar.cmpi .ne v104 c0_i32_55
  let v106 : BitVec 1 := Scalar.andi v103 v105
  let v92 : BitVec 32 := Scalar.divsi v2 c4_i32_50
  let c1_i32_56 : BitVec 32 := 1#32
  let v107 : BitVec 32 := Scalar.subi v92 c1_i32_56
  let v108 : BitVec 32 := Scalar.select v106 v107 v92
  let c1_i32_71 : BitVec 32 := 1#32
  let v125 : BitVec 32 := Scalar.addi v108 c1_i32_71
  let c2_i32_72 : BitVec 32 := 2#32
  let v126 : BitVec 32 := Scalar.muli c2_i32_72 v108
  let c1_i32_73 : BitVec 32 := 1#32
  let v127 : BitVec 32 := Scalar.muli v126 c1_i32_73
  let v128 : BitVec 32 := Scalar.subi v125 v127
  let v134 : BitVec 32 := Scalar.muli c4_i32_76 v128
  let c3_i32_74 : BitVec 32 := 3#32
  let c4_i32_57 : BitVec 32 := 4#32
  let v109 : BitVec 32 := Scalar.muli c4_i32_57 v108
  let v110 : BitVec 32 := Scalar.subi v2 v109
  let c2_i32_62 : BitVec 32 := 2#32
  let v115 : BitVec 1 := Scalar.cmpi .sge v110 c2_i32_62
  let c1_i32_63 : BitVec 32 := 1#32
  let c0_i32_64 : BitVec 32 := 0#32
  let v116 : BitVec 32 := Scalar.select v115 c1_i32_63 c0_i32_64
  let c0_i32_68 : BitVec 32 := 0#32
  let v121 : BitVec 32 := Scalar.addi v116 c0_i32_68
  let c2_i32_69 : BitVec 32 := 2#32
  let v122 : BitVec 32 := Scalar.muli c2_i32_69 v116
  let c0_i32_70 : BitVec 32 := 0#32
  let v123 : BitVec 32 := Scalar.muli v122 c0_i32_70
  let v124 : BitVec 32 := Scalar.subi v121 v123
  let v129 : BitVec 32 := Scalar.muli c3_i32_74 v124
  let c1_i32_58 : BitVec 32 := 1#32
  let v111 : BitVec 1 := Scalar.cmpi .eq v110 c1_i32_58
  let c2_i32_59 : BitVec 32 := 2#32
  let v112 : BitVec 1 := Scalar.cmpi .eq v110 c2_i32_59
  let v113 : BitVec 1 := Scalar.ori v111 v112
  let c1_i32_60 : BitVec 32 := 1#32
  let c0_i32_61 : BitVec 32 := 0#32
  let v114 : BitVec 32 := Scalar.select v113 c1_i32_60 c0_i32_61
  let c0_i32_65 : BitVec 32 := 0#32
  let v117 : BitVec 32 := Scalar.addi v114 c0_i32_65
  let c2_i32_66 : BitVec 32 := 2#32
  let v118 : BitVec 32 := Scalar.muli c2_i32_66 v114
  let c0_i32_67 : BitVec 32 := 0#32
  let v119 : BitVec 32 := Scalar.muli v118 c0_i32_67
  let v120 : BitVec 32 := Scalar.subi v117 v119
  let v130 : BitVec 32 := Scalar.addi v129 v120
  let c2_i32_75 : BitVec 32 := 2#32
  let v131 : BitVec 32 := Scalar.muli c2_i32_75 v120
  let v132 : BitVec 32 := Scalar.muli v131 v124
  let v133 : BitVec 32 := Scalar.subi v130 v132
  let v135 : BitVec 32 := Scalar.addi v134 v133
  let c1_i32_240 : BitVec 32 := 1#32
  let v367 : BitVec 32 := Scalar.muli v135 c1_i32_240
  let v368 : BitVec 32 := Scalar.addi c0_i32_241 v367
  v368.toNat
def k0_dev11 (d0 : Dev nD) : Nat :=
  let c0_i32_253 : BitVec 32 := 0#32
  let c4_i32_103 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_78 : BitVec 32 := 0#32
  let v137 : BitVec 1 := Scalar.cmpi .sgt v2 c0_i32_78
  let v138 : BitVec 32 := Scalar.extui v137
  let c0_i32_79 : BitVec 32 := 0#32
  let v139 : BitVec 1 := Scalar.cmpi .slt v2 c0_i32_79
  let v140 : BitVec 32 := Scalar.extui v139
  let v141 : BitVec 32 := Scalar.subi v138 v140
  let c4_i32_77 : BitVec 32 := 4#32
  let c0_i32_80 : BitVec 32 := 0#32
  let v142 : BitVec 1 := Scalar.cmpi .sgt c4_i32_77 c0_i32_80
  let v143 : BitVec 32 := Scalar.extui v142
  let c0_i32_81 : BitVec 32 := 0#32
  let v144 : BitVec 1 := Scalar.cmpi .slt c4_i32_77 c0_i32_81
  let v145 : BitVec 32 := Scalar.extui v144
  let v146 : BitVec 32 := Scalar.subi v143 v145
  let v147 : BitVec 1 := Scalar.cmpi .ne v141 v146
  let v148 : BitVec 32 := Scalar.remsi v2 c4_i32_77
  let c0_i32_82 : BitVec 32 := 0#32
  let v149 : BitVec 1 := Scalar.cmpi .ne v148 c0_i32_82
  let v150 : BitVec 1 := Scalar.andi v147 v149
  let v136 : BitVec 32 := Scalar.divsi v2 c4_i32_77
  let c1_i32_83 : BitVec 32 := 1#32
  let v151 : BitVec 32 := Scalar.subi v136 c1_i32_83
  let v152 : BitVec 32 := Scalar.select v150 v151 v136
  let c0_i32_98 : BitVec 32 := 0#32
  let v169 : BitVec 32 := Scalar.addi v152 c0_i32_98
  let c2_i32_99 : BitVec 32 := 2#32
  let v170 : BitVec 32 := Scalar.muli c2_i32_99 v152
  let c0_i32_100 : BitVec 32 := 0#32
  let v171 : BitVec 32 := Scalar.muli v170 c0_i32_100
  let v172 : BitVec 32 := Scalar.subi v169 v171
  let v178 : BitVec 32 := Scalar.muli c4_i32_103 v172
  let c3_i32_101 : BitVec 32 := 3#32
  let c4_i32_84 : BitVec 32 := 4#32
  let v153 : BitVec 32 := Scalar.muli c4_i32_84 v152
  let v154 : BitVec 32 := Scalar.subi v2 v153
  let c2_i32_89 : BitVec 32 := 2#32
  let v159 : BitVec 1 := Scalar.cmpi .sge v154 c2_i32_89
  let c1_i32_90 : BitVec 32 := 1#32
  let c0_i32_91 : BitVec 32 := 0#32
  let v160 : BitVec 32 := Scalar.select v159 c1_i32_90 c0_i32_91
  let c1_i32_95 : BitVec 32 := 1#32
  let v165 : BitVec 32 := Scalar.addi v160 c1_i32_95
  let c2_i32_96 : BitVec 32 := 2#32
  let v166 : BitVec 32 := Scalar.muli c2_i32_96 v160
  let c1_i32_97 : BitVec 32 := 1#32
  let v167 : BitVec 32 := Scalar.muli v166 c1_i32_97
  let v168 : BitVec 32 := Scalar.subi v165 v167
  let v173 : BitVec 32 := Scalar.muli c3_i32_101 v168
  let c1_i32_85 : BitVec 32 := 1#32
  let v155 : BitVec 1 := Scalar.cmpi .eq v154 c1_i32_85
  let c2_i32_86 : BitVec 32 := 2#32
  let v156 : BitVec 1 := Scalar.cmpi .eq v154 c2_i32_86
  let v157 : BitVec 1 := Scalar.ori v155 v156
  let c1_i32_87 : BitVec 32 := 1#32
  let c0_i32_88 : BitVec 32 := 0#32
  let v158 : BitVec 32 := Scalar.select v157 c1_i32_87 c0_i32_88
  let c1_i32_92 : BitVec 32 := 1#32
  let v161 : BitVec 32 := Scalar.addi v158 c1_i32_92
  let c2_i32_93 : BitVec 32 := 2#32
  let v162 : BitVec 32 := Scalar.muli c2_i32_93 v158
  let c1_i32_94 : BitVec 32 := 1#32
  let v163 : BitVec 32 := Scalar.muli v162 c1_i32_94
  let v164 : BitVec 32 := Scalar.subi v161 v163
  let v174 : BitVec 32 := Scalar.addi v173 v164
  let c2_i32_102 : BitVec 32 := 2#32
  let v175 : BitVec 32 := Scalar.muli c2_i32_102 v164
  let v176 : BitVec 32 := Scalar.muli v175 v168
  let v177 : BitVec 32 := Scalar.subi v174 v176
  let v179 : BitVec 32 := Scalar.addi v178 v177
  let c1_i32_252 : BitVec 32 := 1#32
  let v380 : BitVec 32 := Scalar.muli v179 c1_i32_252
  let v381 : BitVec 32 := Scalar.addi c0_i32_253 v380
  v381.toNat
def k0_dev12 (d0 : Dev nD) : Nat :=
  let c0_i32_265 : BitVec 32 := 0#32
  let c4_i32_130 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let v181 : BitVec 1 := Scalar.cmpi .sgt v2 c0_i32_105
  let v182 : BitVec 32 := Scalar.extui v181
  let c0_i32_106 : BitVec 32 := 0#32
  let v183 : BitVec 1 := Scalar.cmpi .slt v2 c0_i32_106
  let v184 : BitVec 32 := Scalar.extui v183
  let v185 : BitVec 32 := Scalar.subi v182 v184
  let c4_i32_104 : BitVec 32 := 4#32
  let c0_i32_107 : BitVec 32 := 0#32
  let v186 : BitVec 1 := Scalar.cmpi .sgt c4_i32_104 c0_i32_107
  let v187 : BitVec 32 := Scalar.extui v186
  let c0_i32_108 : BitVec 32 := 0#32
  let v188 : BitVec 1 := Scalar.cmpi .slt c4_i32_104 c0_i32_108
  let v189 : BitVec 32 := Scalar.extui v188
  let v190 : BitVec 32 := Scalar.subi v187 v189
  let v191 : BitVec 1 := Scalar.cmpi .ne v185 v190
  let v192 : BitVec 32 := Scalar.remsi v2 c4_i32_104
  let c0_i32_109 : BitVec 32 := 0#32
  let v193 : BitVec 1 := Scalar.cmpi .ne v192 c0_i32_109
  let v194 : BitVec 1 := Scalar.andi v191 v193
  let v180 : BitVec 32 := Scalar.divsi v2 c4_i32_104
  let c1_i32_110 : BitVec 32 := 1#32
  let v195 : BitVec 32 := Scalar.subi v180 c1_i32_110
  let v196 : BitVec 32 := Scalar.select v194 v195 v180
  let c1_i32_125 : BitVec 32 := 1#32
  let v213 : BitVec 32 := Scalar.addi v196 c1_i32_125
  let c2_i32_126 : BitVec 32 := 2#32
  let v214 : BitVec 32 := Scalar.muli c2_i32_126 v196
  let c1_i32_127 : BitVec 32 := 1#32
  let v215 : BitVec 32 := Scalar.muli v214 c1_i32_127
  let v216 : BitVec 32 := Scalar.subi v213 v215
  let v222 : BitVec 32 := Scalar.muli c4_i32_130 v216
  let c3_i32_128 : BitVec 32 := 3#32
  let c4_i32_111 : BitVec 32 := 4#32
  let v197 : BitVec 32 := Scalar.muli c4_i32_111 v196
  let v198 : BitVec 32 := Scalar.subi v2 v197
  let c2_i32_116 : BitVec 32 := 2#32
  let v203 : BitVec 1 := Scalar.cmpi .sge v198 c2_i32_116
  let c1_i32_117 : BitVec 32 := 1#32
  let c0_i32_118 : BitVec 32 := 0#32
  let v204 : BitVec 32 := Scalar.select v203 c1_i32_117 c0_i32_118
  let c1_i32_122 : BitVec 32 := 1#32
  let v209 : BitVec 32 := Scalar.addi v204 c1_i32_122
  let c2_i32_123 : BitVec 32 := 2#32
  let v210 : BitVec 32 := Scalar.muli c2_i32_123 v204
  let c1_i32_124 : BitVec 32 := 1#32
  let v211 : BitVec 32 := Scalar.muli v210 c1_i32_124
  let v212 : BitVec 32 := Scalar.subi v209 v211
  let v217 : BitVec 32 := Scalar.muli c3_i32_128 v212
  let c1_i32_112 : BitVec 32 := 1#32
  let v199 : BitVec 1 := Scalar.cmpi .eq v198 c1_i32_112
  let c2_i32_113 : BitVec 32 := 2#32
  let v200 : BitVec 1 := Scalar.cmpi .eq v198 c2_i32_113
  let v201 : BitVec 1 := Scalar.ori v199 v200
  let c1_i32_114 : BitVec 32 := 1#32
  let c0_i32_115 : BitVec 32 := 0#32
  let v202 : BitVec 32 := Scalar.select v201 c1_i32_114 c0_i32_115
  let c0_i32_119 : BitVec 32 := 0#32
  let v205 : BitVec 32 := Scalar.addi v202 c0_i32_119
  let c2_i32_120 : BitVec 32 := 2#32
  let v206 : BitVec 32 := Scalar.muli c2_i32_120 v202
  let c0_i32_121 : BitVec 32 := 0#32
  let v207 : BitVec 32 := Scalar.muli v206 c0_i32_121
  let v208 : BitVec 32 := Scalar.subi v205 v207
  let v218 : BitVec 32 := Scalar.addi v217 v208
  let c2_i32_129 : BitVec 32 := 2#32
  let v219 : BitVec 32 := Scalar.muli c2_i32_129 v208
  let v220 : BitVec 32 := Scalar.muli v219 v212
  let v221 : BitVec 32 := Scalar.subi v218 v220
  let v223 : BitVec 32 := Scalar.addi v222 v221
  let c1_i32_264 : BitVec 32 := 1#32
  let v393 : BitVec 32 := Scalar.muli v223 c1_i32_264
  let v394 : BitVec 32 := Scalar.addi c0_i32_265 v393
  v394.toNat
def k0_dev13 (d0 : Dev nD) : Nat :=
  let c0_i32_277 : BitVec 32 := 0#32
  let c4_i32_157 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_132 : BitVec 32 := 0#32
  let v225 : BitVec 1 := Scalar.cmpi .sgt v2 c0_i32_132
  let v226 : BitVec 32 := Scalar.extui v225
  let c0_i32_133 : BitVec 32 := 0#32
  let v227 : BitVec 1 := Scalar.cmpi .slt v2 c0_i32_133
  let v228 : BitVec 32 := Scalar.extui v227
  let v229 : BitVec 32 := Scalar.subi v226 v228
  let c4_i32_131 : BitVec 32 := 4#32
  let c0_i32_134 : BitVec 32 := 0#32
  let v230 : BitVec 1 := Scalar.cmpi .sgt c4_i32_131 c0_i32_134
  let v231 : BitVec 32 := Scalar.extui v230
  let c0_i32_135 : BitVec 32 := 0#32
  let v232 : BitVec 1 := Scalar.cmpi .slt c4_i32_131 c0_i32_135
  let v233 : BitVec 32 := Scalar.extui v232
  let v234 : BitVec 32 := Scalar.subi v231 v233
  let v235 : BitVec 1 := Scalar.cmpi .ne v229 v234
  let v236 : BitVec 32 := Scalar.remsi v2 c4_i32_131
  let c0_i32_136 : BitVec 32 := 0#32
  let v237 : BitVec 1 := Scalar.cmpi .ne v236 c0_i32_136
  let v238 : BitVec 1 := Scalar.andi v235 v237
  let v224 : BitVec 32 := Scalar.divsi v2 c4_i32_131
  let c1_i32_137 : BitVec 32 := 1#32
  let v239 : BitVec 32 := Scalar.subi v224 c1_i32_137
  let v240 : BitVec 32 := Scalar.select v238 v239 v224
  let c1_i32_152 : BitVec 32 := 1#32
  let v257 : BitVec 32 := Scalar.addi v240 c1_i32_152
  let c2_i32_153 : BitVec 32 := 2#32
  let v258 : BitVec 32 := Scalar.muli c2_i32_153 v240
  let c1_i32_154 : BitVec 32 := 1#32
  let v259 : BitVec 32 := Scalar.muli v258 c1_i32_154
  let v260 : BitVec 32 := Scalar.subi v257 v259
  let v266 : BitVec 32 := Scalar.muli c4_i32_157 v260
  let c3_i32_155 : BitVec 32 := 3#32
  let c4_i32_138 : BitVec 32 := 4#32
  let v241 : BitVec 32 := Scalar.muli c4_i32_138 v240
  let v242 : BitVec 32 := Scalar.subi v2 v241
  let c2_i32_143 : BitVec 32 := 2#32
  let v247 : BitVec 1 := Scalar.cmpi .sge v242 c2_i32_143
  let c1_i32_144 : BitVec 32 := 1#32
  let c0_i32_145 : BitVec 32 := 0#32
  let v248 : BitVec 32 := Scalar.select v247 c1_i32_144 c0_i32_145
  let c0_i32_149 : BitVec 32 := 0#32
  let v253 : BitVec 32 := Scalar.addi v248 c0_i32_149
  let c2_i32_150 : BitVec 32 := 2#32
  let v254 : BitVec 32 := Scalar.muli c2_i32_150 v248
  let c0_i32_151 : BitVec 32 := 0#32
  let v255 : BitVec 32 := Scalar.muli v254 c0_i32_151
  let v256 : BitVec 32 := Scalar.subi v253 v255
  let v261 : BitVec 32 := Scalar.muli c3_i32_155 v256
  let c1_i32_139 : BitVec 32 := 1#32
  let v243 : BitVec 1 := Scalar.cmpi .eq v242 c1_i32_139
  let c2_i32_140 : BitVec 32 := 2#32
  let v244 : BitVec 1 := Scalar.cmpi .eq v242 c2_i32_140
  let v245 : BitVec 1 := Scalar.ori v243 v244
  let c1_i32_141 : BitVec 32 := 1#32
  let c0_i32_142 : BitVec 32 := 0#32
  let v246 : BitVec 32 := Scalar.select v245 c1_i32_141 c0_i32_142
  let c1_i32_146 : BitVec 32 := 1#32
  let v249 : BitVec 32 := Scalar.addi v246 c1_i32_146
  let c2_i32_147 : BitVec 32 := 2#32
  let v250 : BitVec 32 := Scalar.muli c2_i32_147 v246
  let c1_i32_148 : BitVec 32 := 1#32
  let v251 : BitVec 32 := Scalar.muli v250 c1_i32_148
  let v252 : BitVec 32 := Scalar.subi v249 v251
  let v262 : BitVec 32 := Scalar.addi v261 v252
  let c2_i32_156 : BitVec 32 := 2#32
  let v263 : BitVec 32 := Scalar.muli c2_i32_156 v252
  let v264 : BitVec 32 := Scalar.muli v263 v256
  let v265 : BitVec 32 := Scalar.subi v262 v264
  let v267 : BitVec 32 := Scalar.addi v266 v265
  let c1_i32_276 : BitVec 32 := 1#32
  let v406 : BitVec 32 := Scalar.muli v267 c1_i32_276
  let v407 : BitVec 32 := Scalar.addi c0_i32_277 v406
  v407.toNat
def k0_dev14 (d0 : Dev nD) : Nat :=
  let c0_i32_288 : BitVec 32 := 0#32
  let c4_i32_184 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_159 : BitVec 32 := 0#32
  let v269 : BitVec 1 := Scalar.cmpi .sgt v2 c0_i32_159
  let v270 : BitVec 32 := Scalar.extui v269
  let c0_i32_160 : BitVec 32 := 0#32
  let v271 : BitVec 1 := Scalar.cmpi .slt v2 c0_i32_160
  let v272 : BitVec 32 := Scalar.extui v271
  let v273 : BitVec 32 := Scalar.subi v270 v272
  let c4_i32_158 : BitVec 32 := 4#32
  let c0_i32_161 : BitVec 32 := 0#32
  let v274 : BitVec 1 := Scalar.cmpi .sgt c4_i32_158 c0_i32_161
  let v275 : BitVec 32 := Scalar.extui v274
  let c0_i32_162 : BitVec 32 := 0#32
  let v276 : BitVec 1 := Scalar.cmpi .slt c4_i32_158 c0_i32_162
  let v277 : BitVec 32 := Scalar.extui v276
  let v278 : BitVec 32 := Scalar.subi v275 v277
  let v279 : BitVec 1 := Scalar.cmpi .ne v273 v278
  let v280 : BitVec 32 := Scalar.remsi v2 c4_i32_158
  let c0_i32_163 : BitVec 32 := 0#32
  let v281 : BitVec 1 := Scalar.cmpi .ne v280 c0_i32_163
  let v282 : BitVec 1 := Scalar.andi v279 v281
  let v268 : BitVec 32 := Scalar.divsi v2 c4_i32_158
  let c1_i32_164 : BitVec 32 := 1#32
  let v283 : BitVec 32 := Scalar.subi v268 c1_i32_164
  let v284 : BitVec 32 := Scalar.select v282 v283 v268
  let c1_i32_179 : BitVec 32 := 1#32
  let v301 : BitVec 32 := Scalar.addi v284 c1_i32_179
  let c2_i32_180 : BitVec 32 := 2#32
  let v302 : BitVec 32 := Scalar.muli c2_i32_180 v284
  let c1_i32_181 : BitVec 32 := 1#32
  let v303 : BitVec 32 := Scalar.muli v302 c1_i32_181
  let v304 : BitVec 32 := Scalar.subi v301 v303
  let v310 : BitVec 32 := Scalar.muli c4_i32_184 v304
  let c3_i32_182 : BitVec 32 := 3#32
  let c4_i32_165 : BitVec 32 := 4#32
  let v285 : BitVec 32 := Scalar.muli c4_i32_165 v284
  let v286 : BitVec 32 := Scalar.subi v2 v285
  let c2_i32_170 : BitVec 32 := 2#32
  let v291 : BitVec 1 := Scalar.cmpi .sge v286 c2_i32_170
  let c1_i32_171 : BitVec 32 := 1#32
  let c0_i32_172 : BitVec 32 := 0#32
  let v292 : BitVec 32 := Scalar.select v291 c1_i32_171 c0_i32_172
  let c1_i32_176 : BitVec 32 := 1#32
  let v297 : BitVec 32 := Scalar.addi v292 c1_i32_176
  let c2_i32_177 : BitVec 32 := 2#32
  let v298 : BitVec 32 := Scalar.muli c2_i32_177 v292
  let c1_i32_178 : BitVec 32 := 1#32
  let v299 : BitVec 32 := Scalar.muli v298 c1_i32_178
  let v300 : BitVec 32 := Scalar.subi v297 v299
  let v305 : BitVec 32 := Scalar.muli c3_i32_182 v300
  let c1_i32_166 : BitVec 32 := 1#32
  let v287 : BitVec 1 := Scalar.cmpi .eq v286 c1_i32_166
  let c2_i32_167 : BitVec 32 := 2#32
  let v288 : BitVec 1 := Scalar.cmpi .eq v286 c2_i32_167
  let v289 : BitVec 1 := Scalar.ori v287 v288
  let c1_i32_168 : BitVec 32 := 1#32
  let c0_i32_169 : BitVec 32 := 0#32
  let v290 : BitVec 32 := Scalar.select v289 c1_i32_168 c0_i32_169
  let c1_i32_173 : BitVec 32 := 1#32
  let v293 : BitVec 32 := Scalar.addi v290 c1_i32_173
  let c2_i32_174 : BitVec 32 := 2#32
  let v294 : BitVec 32 := Scalar.muli c2_i32_174 v290
  let c1_i32_175 : BitVec 32 := 1#32
  let v295 : BitVec 32 := Scalar.muli v294 c1_i32_175
  let v296 : BitVec 32 := Scalar.subi v293 v295
  let v306 : BitVec 32 := Scalar.addi v305 v296
  let c2_i32_183 : BitVec 32 := 2#32
  let v307 : BitVec 32 := Scalar.muli c2_i32_183 v296
  let v308 : BitVec 32 := Scalar.muli v307 v300
  let v309 : BitVec 32 := Scalar.subi v306 v308
  let v311 : BitVec 32 := Scalar.addi v310 v309
  let c1_i32_287 : BitVec 32 := 1#32
  let v419 : BitVec 32 := Scalar.muli v311 c1_i32_287
  let v420 : BitVec 32 := Scalar.addi c0_i32_288 v419
  v420.toNat
def k0_off3 (d0 : Dev nD) : Fin 2 → Nat :=
  let c0 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_291 : BitVec 32 := 256#32
  let v427 : BitVec 32 := Scalar.muli v2 c256_i32_291
  let v428 : Index := Scalar.indexCast v427
  ![0, v428.toNat]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_292 : BitVec 32 := 256#32
  let v431 : BitVec 32 := Scalar.muli v2 c256_i32_292
  let v432 : Index := Scalar.indexCast v431
  let c0_293 : Index := 0#32
  ![v432.toNat, 0]
abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 1
  | .vmem => 0
  | .smem => 0
  | _ => 0

abbrev bufTy : (tb : Table) → Fin (tcTables nBuf tb) → BufTy
  | .hbm, ⟨0, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Exchange.lean ====
/-
The protocol of the all-to-all kernel.

Eight devices each hold 256 rows of a 2048 × 2048 array and each must end with 256 of its columns. A device talks to
seven partners, one per slot `k`; the partner of slot `k` is found by an exclusive-or of the device number with a
constant, so partnering is symmetric. Per slot a device has three semaphores: one on which the partner announces that
it has entered the kernel, one that counts its own copy out, and one that counts the partner's copy in. This module
states who the partners are, cuts the two staging buffers into the blocks the copies move, and states what each of the
three semaphores hands over when it is waited for.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one round-structured ledger for the pipeline's staging cells, one for the exchange. -/
abbrev Gh : Type := UR sig nD τ × UR sig nD τ

local notation "𝕄" => MT nD τ sig Unit (Elt F) ℕ Gh ℕ

/-- The pipeline's ledger sits in the left half of the ghost state. -/
abbrev pipeE : Emb (UR sig nD τ) (MT nD τ sig Unit (Elt F) ℕ Gh ℕ) := embL
/-- The exchange's ledger sits in the right half. -/
abbrev exE : Emb (UR sig nD τ) (MT nD τ sig Unit (Elt F) ℕ Gh ℕ) := embR

variable (m : (ℓ : Loc nD τ sig) → Buf (Elt F) ℓ) (ρ : Dev nD → PrngReg)

/-! ## Partners -/

/-- The constant that slot `k` flips a device number by: the seven non-zero ways of moving along the three axes of the
    2 × 2 × 2 torus, in the kernel's order, once the ring order of the first two axes is taken into account. -/
def flip (k : Fin 7) : ℕ := (![1, 3, 4, 2, 7, 5, 6] : Fin 7 → ℕ) k

theorem flip_lt : ∀ (k : Fin 7) (c : Dev nD), c.val ^^^ flip k < nD := by decide

/-- The partner of device `c` in slot `k`. -/
def peer (k : Fin 7) (c : Dev nD) : Dev nD := ⟨c.val ^^^ flip k, flip_lt k c⟩

/-- Partnering is symmetric. -/
theorem peer_invol : ∀ (k : Fin 7) (c : Dev nD), peer k (peer k c) = c := by decide

/-- No device is its own partner, and distinct slots have distinct partners: with itself a device counts each device
    once. -/
theorem peers_cover : ∀ c : Dev nD, Function.Bijective (fun o : Option (Fin 7) => o.elim c (fun k => peer k c)) := by
  decide

/-- A slot's partnering as a permutation of the devices. -/
def swapAt (k : Fin 7) : Dev nD ≃ Dev nD := ⟨peer k, peer k, peer_invol k, peer_invol k⟩

/-- The devices, listed from device `c`: itself, then its partners slot by slot. -/
def around (c : Dev nD) : Option (Fin 7) ≃ Dev nD := Equiv.ofBijective _ (peers_cover c)

omit [FloatOps F] in
/-- A family over the devices is its member at `c` and its members at the seven partners of `c`. -/
theorem bigSep_around (c : Dev nD) (Φ : Dev nD → sProp 𝕄) :
    bigSep Finset.univ Φ = iprop(Φ c ∗ bigSep Finset.univ fun k : Fin 7 => Φ (peer k c)) := by
  rw [bigSep_univ_equiv (around c) Φ, bigSep_univ_equiv (Equiv.optionEquivSumPUnit.{0, 0} (Fin 7)).symm, bigSep_univ_sum,
    bigSep_univ_of_subsingleton PUnit.unit]
  exact Entails.antisymm BI.sep_comm BI.sep_comm

/-! ## The two staging buffers and their blocks -/

/-- The device's staged rows of `x`. -/
abbrev xBuf : Memref sig .tc .vmem S256x2048 .f32 := Memref.whole cc0_stg0_0
/-- The device's staged columns of the result. -/
abbrev yBuf : Memref sig .tc .vmem S2048x256 .f32 := Memref.whole cc0_stg1_0

theorem cols_inb : ∀ (j : Dev nD) (a : Fin 2), (![0, 256 * j.val] : Fin 2 → ℕ) a + S256x256.size a ≤ S256x2048.size a := by decide
theorem rows_inb : ∀ (j : Dev nD) (a : Fin 2), (![256 * j.val, 0] : Fin 2 → ℕ) a + S256x256.size a ≤ S2048x256.size a := by decide

/-- The 256 columns of the staged `x` that belong to device `j`. -/
abbrev colsR (j : Dev nD) : Rect S256x2048 := Rect.unit (s := S256x2048) ![0, 256 * j.val] S256x256.size (cols_inb j)
/-- The 256 rows of the staged result that come from device `j`. -/
abbrev rowsR (j : Dev nD) : Rect S2048x256 := Rect.unit (s := S2048x256) ![256 * j.val, 0] S256x256.size (rows_inb j)
abbrev xCols (j : Dev nD) : Memref sig .tc .vmem S256x256 .f32 := xBuf.slice (colsR j) (fun _ => rfl)
abbrev yRows (j : Dev nD) : Memref sig .tc .vmem S256x256 .f32 := yBuf.slice (rowsR j) (fun _ => rfl)

/-- The elements of the column block of device `j`. -/
theorem mem_cols (j : Dev nD) (i : S256x2048.Idx) : i ∈ (xCols j).view.set ↔ (i 1).val / 256 = j.val := by
  refine (Finset.ext_iff.mp (View.set_slice_whole cc0_stg0_0 (colsR j)) i).trans ?_
  refine (Rect.mem_set_unit.trans Fin.forall_fin_two).trans ?_
  have h0 : (i 0).val < 256 := (i 0).isLt
  show (0 ≤ (i 0).val ∧ (i 0).val < 0 + 256) ∧ (256 * j.val ≤ (i 1).val ∧ (i 1).val < 256 * j.val + 256) ↔ _
  omega

/-- The elements of the row block of device `j`. -/
theorem mem_rows (j : Dev nD) (i : S2048x256.Idx) : i ∈ (yRows j).view.set ↔ (i 0).val / 256 = j.val := by
  refine (Finset.ext_iff.mp (View.set_slice_whole cc0_stg1_0 (rowsR j)) i).trans ?_
  refine (Rect.mem_set_unit.trans Fin.forall_fin_two).trans ?_
  have h0 : (i 1).val < 256 := (i 1).isLt
  show (256 * j.val ≤ (i 0).val ∧ (i 0).val < 256 * j.val + 256) ∧ (0 ≤ (i 1).val ∧ (i 1).val < 0 + 256) ↔ _
  omega

/-- The device whose rows an element of the result comes from. -/
def rowDev (i : S2048x256.Idx) : Dev nD := ⟨(i 0).val / 256, by have h : (i 0).val < 2048 := (i 0).isLt; show _ < 8; omega⟩

/-- The device whose columns an element of the staged `x` belongs to. -/
def colDev (i : S256x2048.Idx) : Dev nD := ⟨(i 1).val / 256, by have h : (i 1).val < 2048 := (i 1).isLt; show _ < 8; omega⟩

/-- What one device holds of the staged `x` in the column block of `j`: all of it, at contents `f`. -/
def xHeld (c j : Dev nD) (f : (cc0_stg0_0 : Ref sig .tc).ty.Contents (Elt F)) : sProp 𝕄 :=
  (xCols j).view.loc (c : Thread nD τ) ↦[(xCols j).view.set]{fullShare} f
/-- What one device holds of the staged result in the row block of `j`: all of it, at contents `f`. -/
def yHeld (c j : Dev nD) (f : (cc0_stg1_0 : Ref sig .tc).ty.Contents (Elt F)) : sProp 𝕄 :=
  (yRows j).view.loc (c : Thread nD τ) ↦[(yRows j).view.set]{fullShare} f

omit [FloatOps F] in
instance xHeld_storable (c j : Dev nD) (f) : BI.Storable (upEmb : UEmb _ 𝕄) (xHeld (F := F) c j f) := by unfold xHeld; infer_instance
omit [FloatOps F] in
instance yHeld_storable (c j : Dev nD) (f) : BI.Storable (upEmb : UEmb _ 𝕄) (yHeld (F := F) c j f) := by unfold yHeld; infer_instance

omit [FloatOps F] in
/-- Holding the whole staged `x` is holding its eight column blocks. -/
theorem x_blocks (c : Dev nD) (f : (cc0_stg0_0 : Ref sig .tc).ty.Contents (Elt F)) :
    ((((c : Thread nD τ).loc cc0_stg0_0) ↦{fullShare} f : sProp 𝕄)) = bigSep Finset.univ fun j => xHeld c j f := by
  have hU : Finset.univ.biUnion (fun j : Dev nD => ((xCols j).view.set : Finset (Idx ((c : Thread nD τ).loc cc0_stg0_0)))) = Finset.univ :=
    Finset.eq_univ_iff_forall.mpr fun i => Finset.mem_biUnion.mpr ⟨colDev i, Finset.mem_univ _, (mem_cols _ i).mpr rfl⟩
  rw [← hU]
  exact pointsTo_biUnion Finset.univ _ fun j _ j' _ hne => Finset.disjoint_left.mpr fun i hi hi' =>
    hne (Fin.ext (((mem_cols j i).mp hi).symm.trans ((mem_cols j' i).mp hi')))

omit [FloatOps F] in
/-- Holding the whole staged result is holding its eight row blocks. -/
theorem y_blocks (c : Dev nD) (f : (cc0_stg1_0 : Ref sig .tc).ty.Contents (Elt F)) :
    ((((c : Thread nD τ).loc cc0_stg1_0) ↦{fullShare} f : sProp 𝕄)) = bigSep Finset.univ fun j => yHeld c j f := by
  have hU : Finset.univ.biUnion (fun j : Dev nD => ((yRows j).view.set : Finset (Idx ((c : Thread nD τ).loc cc0_stg1_0)))) = Finset.univ :=
    Finset.eq_univ_iff_forall.mpr fun i => Finset.mem_biUnion.mpr ⟨rowDev i, Finset.mem_univ _, (mem_rows _ i).mpr rfl⟩
  rw [← hU]
  exact pointsTo_biUnion Finset.univ _ fun j _ j' _ hne => Finset.disjoint_left.mpr fun i hi hi' =>
    hne (Fin.ext (((mem_rows j i).mp hi).symm.trans ((mem_rows j' i).mp hi')))

/-! ## Contents -/

/-- The rows of `x` as the pipeline stages them on device `c`. -/
def xIn (c : Dev nD) : (cc0_stg0_0 : Ref sig .tc).ty.Contents (Elt F) :=
  (win0_0.blk (0 : Fin 1)).view.read (Elt F) (m ((c : Thread nD τ).loc main_arg0))

/-- Where, in the rows of the device it comes from, an element of device `c`'s result is found. -/
def srcIx (c : Dev nD) (i : S2048x256.Idx) : S256x2048.Idx := fun a => match a with
  | ⟨0, _⟩ => ⟨(i 0).val % 256, Nat.mod_lt _ (by decide)⟩
  | ⟨1, _⟩ => ⟨256 * c.val + (i 1).val, by
      have h : (i 1).val < 256 := (i 1).isLt
      have hc : c.val < 8 := c.isLt
      show _ < 2048; omega⟩

/-- The result of device `c`: row block `j` is the column block `c` of device `j`'s rows. -/
def yOut (c : Dev nD) : (cc0_stg1_0 : Ref sig .tc).ty.Contents (Elt F) := fun i => xIn m (rowDev i) (srcIx c i)

omit [FloatOps F] in
/-- Writing the column block `c` of device `j`'s rows over the row block `j` of device `c`'s result gives the result's
    elements there. -/
theorem moved (c j : Dev nD) (f : (cc0_stg1_0 : Ref sig .tc).ty.Contents (Elt F)) (i : S2048x256.Idx) (hi : i ∈ (yRows j).view.set) :
    (yRows j).view.write (Elt F) f ((xCols c).view.read (Elt F) (xIn m j)) Finset.univ i = yOut m c i := by
  obtain ⟨p, -, rfl⟩ := Finset.mem_map.mp hi
  rw [View.write_emb_of_mem _ _ (Finset.mem_univ p)]
  have hp : (p 0).val < 256 := (p 0).isLt
  have h0 : ((yRows j).view.emb p 0).val = 256 * j.val + 1 * (p 0).val := rfl
  have h1 : ((yRows j).view.emb p 1).val = 0 + 1 * (p 1).val := rfl
  show xIn m j ((xCols c).view.emb p) = xIn m (rowDev ((yRows j).view.emb p)) (srcIx c ((yRows j).view.emb p))
  have hd : rowDev ((yRows j).view.emb p) = j := Fin.ext (by show ((yRows j).view.emb p 0).val / 256 = _; omega)
  rw [hd]
  refine congrArg _ (funext fun a => Fin.ext ?_)
  match a with
  | ⟨0, _⟩ => show 0 + 1 * (p 0).val = ((yRows j).view.emb p 0).val % 256; omega
  | ⟨1, _⟩ => show 256 * c.val + 1 * (p 1).val = 256 * c.val + ((yRows j).view.emb p 1).val; omega

/-! ## The semaphores -/

/-- The semaphore on which the partner of slot `k` announces itself: the mesh barrier for slot 0, then the six
    handshake semaphores. -/
def annS (k : Fin 7) : Sem sig := (![6, 0, 1, 2, 3, 4, 5] : Fin 7 → Fin 7) k
/-- The semaphore that counts the copy to the partner of slot `k`. -/
def sndS (k : Fin 7) : DmaSem sig := (![2, 3, 4, 5, 6, 7, 8] : Fin 7 → Fin 17) k
/-- The semaphore that counts the copy from the partner of slot `k`. -/
def rcvS (k : Fin 7) : DmaSem sig := (![9, 10, 11, 12, 13, 14, 15] : Fin 7 → Fin 17) k

/-- The three semaphores of a slot: announcement, copy out, copy in. -/
def exS (p : Fin 3 × Fin 7) : SemLoc sig := (![.reg (annS p.2), .dma (sndS p.2), .dma (rcvS p.2)] : Fin 3 → SemLoc sig) p.1

theorem exS_inj : Function.Injective exS := by decide

abbrev exCell (c : Dev nD) (p : Fin 3 × Fin 7) : GSem nD τ sig := ((c : Thread nD τ), exS p)
abbrev annC (c : Dev nD) (k : Fin 7) : GSem nD τ sig := ((c : Thread nD τ), .reg (annS k))
abbrev sndC (c : Dev nD) (k : Fin 7) : GSem nD τ sig := ((c : Thread nD τ), .dma (sndS k))
abbrev rcvC (c : Dev nD) (k : Fin 7) : GSem nD τ sig := ((c : Thread nD τ), .dma (rcvS k))

/-- Which of the twenty-one semaphores a semaphore is, if any. -/
def roleOf : SemLoc sig → Option (Fin 3 × Fin 7)
  | .reg s => some (0, (![1, 2, 3, 4, 5, 6, 0] : Fin 7 → Fin 7) s)
  | .dma d => (![none, none, some (1, 0), some (1, 1), some (1, 2), some (1, 3), some (1, 4), some (1, 5), some (1, 6),
      some (2, 0), some (2, 1), some (2, 2), some (2, 3), some (2, 4), some (2, 5), some (2, 6), none] : Fin 17 → Option (Fin 3 × Fin 7)) d

theorem roleOf_ex : ∀ p : Fin 3 × Fin 7, roleOf (exS p) = some p := by decide

/-! ## What the semaphores hand over -/

/-- The units one 256 × 256 copy adds to a semaphore. -/
abbrev N : ℕ := (xCols 0).view.dmaCredit
theorem N_pos : 0 < N := View.dmaCredit_pos _ (by decide)

/-- The partner's announcement: the row block of this device in the partner's result, at any contents, to be written by
    this device's copy; and that the partner's semaphore for that copy is at its first round. -/
def annPay (c : Dev nD) (k : Fin 7) : sProp 𝕄 :=
  iprop((∃ f, yHeld (peer k c) c f) ∗ reached exE (rcvC (peer k c) k) 0)
/-- The copy out done: the column block of the partner in this device's `x`, unchanged. -/
def sndPay (c : Dev nD) (k : Fin 7) : sProp 𝕄 := xHeld c (peer k c) (xIn m c)
/-- The copy in done: the row block of the partner in this device's result, at the result's contents. -/
def rcvPay (c : Dev nD) (k : Fin 7) : sProp 𝕄 := yHeld c (peer k c) (yOut m c)

/-- What a semaphore in a given role hands over on device `c`. -/
def handover (c : Dev nD) : Option (Fin 3 × Fin 7) → sProp 𝕄
  | some (p, k) => if p = 0 then annPay c k else if p = 1 then sndPay m c k else rcvPay m c k
  | none => iprop(emp)

/-- The units a semaphore in a given role waits for. -/
def unitsOf : Option (Fin 3 × Fin 7) → ℕ
  | some (p, _) => if p = 0 then 1 else N
  | none => 1

theorem unitsOf_pos (o : Option (Fin 3 × Fin 7)) : 0 < unitsOf o := by
  rcases o with _ | ⟨p, k⟩
  · exact Nat.one_pos
  · show 0 < if p = 0 then 1 else N
    split
    · exact Nat.one_pos
    · exact N_pos

/-- Each of the twenty-one semaphores of a device is waited for once, for one contribution; no other semaphore of the
    body is. -/
def exRd : Rounds.Schedule (GSem nD τ sig) Unit 𝕄 where
  duties g r := if r = 0 ∧ g.1.2 = .tc ∧ (roleOf g.2).isSome then {()} else ∅
  unitless _ := False
  amount g _ _ := unitsOf (roleOf g.2)
  payload g _ _ := handover m g.1.1 (roleOf g.2)
  amount_pos g _ _ _ := unitsOf_pos _

instance handover_storable (c : Dev nD) (o : Option (Fin 3 × Fin 7)) : BI.Storable (upEmb : UEmb _ 𝕄) (handover (F := F) m c o) := by
  rcases o with _ | ⟨p, k⟩
  · show BI.Storable upEmb (iprop(emp) : sProp 𝕄); infer_instance
  · show BI.Storable upEmb (if p = 0 then annPay c k else if p = 1 then sndPay m c k else rcvPay m c k)
    unfold annPay sndPay rcvPay
    (repeat' split) <;> infer_instance

instance exRd_storable (g : GSem nD τ sig) (r : ℕ) (d : Unit) : BI.Storable (upEmb : UEmb _ 𝕄) ((exRd (F := F) m).payload g r d) :=
  handover_storable m g.1.1 (roleOf g.2)

section Facts
variable (c : Dev nD) (p : Fin 3 × Fin 7)

omit [FloatOps F] in
theorem ex_duties : (exRd (F := F) m).duties (exCell c p) 0 = {()} := if_pos ⟨rfl, rfl, by rw [roleOf_ex]; rfl⟩
omit [FloatOps F] in
theorem ex_done (g : GSem nD τ sig) : ∀ r, 1 ≤ r → (exRd (F := F) m).duties g r = ∅ := fun r hr => if_neg fun h => by omega
omit [FloatOps F] in
theorem ex_amount (u : Unit) : (exRd (F := F) m).amount (exCell c p) 0 u = unitsOf (some p) := congrArg unitsOf (roleOf_ex p)
omit [FloatOps F] in
theorem ex_payload (u : Unit) : (exRd (F := F) m).payload (exCell c p) 0 u = handover m c (some p) := congrArg (handover m c) (roleOf_ex p)
omit [FloatOps F] in
theorem ex_expect : (exRd (F := F) m).expect (exCell c p) 0 = unitsOf (some p) := by
  unfold Schedule.expect Schedule.amountOf; rw [ex_duties, Finset.sum_singleton, ex_amount]
omit [FloatOps F] in
/-- All that the wait on a semaphore hands over. -/
theorem ex_rest : bigSep ((exRd (F := F) m).duties (exCell c p) 0 \ ∅) (fun u => (exRd (F := F) m).payload (exCell c p) 0 u) = handover m c (some p) := by
  rw [Finset.sdiff_empty, ex_duties, bigSep_singleton, ex_payload]

end Facts

/-! ## Debts and levels -/

/-- Device `c`'s debt to the partner of slot `k`: the units of its copy, -/
def dueCopy (c : Dev nD) (k : Fin 7) : CellTallies nD τ sig Unit := tallyAt (exCell (peer k c) (2, k)) () N
/-- and the one unit of its announcement. -/
def dueAnn (c : Dev nD) (k : Fin 7) : CellTallies nD τ sig Unit := tallyAt (exCell (peer k c) (0, k)) () 1

/-- The debt of the copies of the slots in a list. -/
def copiesDue (c : Dev nD) : List (Fin 7) → CellTallies nD τ sig Unit
  | [] => 0
  | k :: ks => copiesDue c ks + dueCopy c k

/-- The slots in the order the kernel takes them. -/
abbrev slots : List (Fin 7) := [0, 1, 2, 3, 4, 5, 6]

/-- The debt of the announcements of the slots in a list, over that of all the copies. -/
def annsDue (c : Dev nD) : List (Fin 7) → CellTallies nD τ sig Unit
  | [] => copiesDue c slots
  | k :: ks => annsDue c ks + dueAnn c k

/-- What device `c` owes when the kernel begins. -/
def debt (c : Dev nD) : CellTallies nD τ sig Unit := annsDue c slots

/-- The cells with a level: those of the cores. -/
def lvOn (g : GSem nD τ sig) : Finset Unit := if g.1.2 = .tc then {()} else ∅
/-- A copy in is above an announcement, and an announcement above everything else. -/
def lv (g : GSem nD τ sig) (_ : Unit) : ℕ := match roleOf g.2 with
  | some (p, _) => if p = 0 then 1 else if p = 2 then 2 else 0
  | none => 0

theorem lvOn_of_ne (g : GSem nD τ sig) (h : g.1.2 ≠ .tc) : lvOn g = ∅ := if_neg h
theorem mem_lvOn (c : Dev nD) (s : SemLoc sig) (u : Unit) : u ∈ lvOn ((c : Thread nD τ), s) := by
  rw [show lvOn ((c : Thread nD τ), s) = {()} from if_pos rfl]; exact Finset.mem_singleton_self _
theorem lv_ex (c : Dev nD) (p : Fin 3 × Fin 7) (u : Unit) : lv (exCell c p) u = if p.1 = 0 then 1 else if p.1 = 2 then 2 else 0 := by
  unfold lv; rw [roleOf_ex]

theorem copiesDue_pos {c : Dev nD} {ks : List (Fin 7)} {g : GSem nD τ sig} {u : Unit} (h : 0 < copiesDue c ks g u) :
    ∃ k, g = exCell (peer k c) (2, k) := by
  induction ks with
  | nil => exact absurd h (Nat.lt_irrefl 0)
  | cons k ks ih =>
    by_cases hg : g = exCell (peer k c) (2, k)
    · exact ⟨k, hg⟩
    · refine ih ?_
      have h' : 0 < copiesDue c ks g u + tallyAt (exCell (peer k c) (2, k)) () N g u := h
      rwa [tallyAt_apply, if_neg (fun e => hg e.1), Nat.add_zero] at h'

theorem annsDue_pos {c : Dev nD} {ks : List (Fin 7)} {g : GSem nD τ sig} {u : Unit} (h : 0 < annsDue c ks g u) :
    ∃ k, g = exCell (peer k c) (2, k) ∨ g = exCell (peer k c) (0, k) := by
  induction ks with
  | nil => obtain ⟨k, hk⟩ := copiesDue_pos h; exact ⟨k, .inl hk⟩
  | cons k ks ih =>
    by_cases hg : g = exCell (peer k c) (0, k)
    · exact ⟨k, .inr hg⟩
    · refine ih ?_
      have h' : 0 < annsDue c ks g u + tallyAt (exCell (peer k c) (0, k)) () 1 g u := h
      rwa [tallyAt_apply, if_neg (fun e => hg e.1), Nat.add_zero] at h'

omit [FloatOps F] in
/-- A device may wait for an announcement while it owes copies. -/
theorem may_ann (c : Dev nD) (k : Fin 7) (ks : List (Fin 7)) :
    (levAts lvOn lv : sProp 𝕄) ⊢ MayWait (c : Thread nD τ) (exS (0, k)) () (copiesDue c ks) :=
  MayOwe.of_cut (L := lvOn) (lev := lv) 1 (fun _ _ => mem_lvOn c _ _)
    (fun g u hg => by obtain ⟨j, rfl⟩ := copiesDue_pos hg; exact mem_lvOn _ _ _)
    (fun p hp => by rw [Finset.mem_singleton.mp hp]; exact le_of_eq (lv_ex c (0, k) ()))
    (fun g u hg => by obtain ⟨j, rfl⟩ := copiesDue_pos hg; rw [lv_ex]; exact (by decide : (1 : ℕ) < 2))

omit [FloatOps F] in
/-- A device may wait for its staging copies while it owes announcements and copies, or nothing. -/
theorem may_stage (c : Dev nD) (q : DmaSem sig) (hq : roleOf (.dma q) = none) (O : CellTallies nD τ sig Unit) (hO : O = debt c ∨ O = 0) :
    (levAts lvOn lv : sProp 𝕄) ⊢ MayWait (c : Thread nD τ) (.dma q) () O := by
  rcases hO with rfl | rfl
  · refine MayOwe.of_cut (L := lvOn) (lev := lv) 0 (fun _ _ => mem_lvOn c _ _)
      (fun g u hg => by obtain ⟨j, rfl | rfl⟩ := annsDue_pos hg <;> exact mem_lvOn _ _ _)
      (fun p hp => by rw [Finset.mem_singleton.mp hp]; unfold lv; rw [hq])
      (fun g u hg => by
        obtain ⟨j, rfl | rfl⟩ := annsDue_pos hg <;> rw [lv_ex]
        · exact (by decide : (0 : ℕ) < 2)
        · exact (by decide : (0 : ℕ) < 1))
  · rw [MayWait_zero]; iintro -; iempintro

end Cert.AllToAll

end
-- ==== Proof.Steps.lean ====
/-
One device's steps of the all-to-all, slot by slot.

What a device holds for one slot goes through six stages: entered, announced, welcomed (its partner has announced
itself), sent, copied out, copied in. This module states the six stages and proves, once for every device and slot, that
each operation of the kernel takes a slot from one stage to the next.
-/
module

public import proofs.«01_k».proof.Proof.Exchange

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Gh ℕ

variable (m : (ℓ : Loc nD τ sig) → Buf (Elt F) ℓ)

/-- The names the exchange's cells are recorded under. -/
abbrev Names : Type := Dev nD × (Fin 3 × Fin 7) → ℕ

/-- The record of one cell. -/
abbrev known (K : Names) (c : Dev nD) (p : Fin 3 × Fin 7) : sProp 𝕄 := cellInv exE (exRd m) (K (c, p)) (exCell c p)

/-- What a device knows of slot `k` throughout: the records of its own three cells and of the two it pays to on its
    partner, and that each cell paid to is at its first round. -/
def facts (K : Names) (c : Dev nD) (k : Fin 7) : sProp 𝕄 :=
  iprop((known m K c (0, k) ∗ known m K c (1, k) ∗ known m K c (2, k) ∗ known m K (peer k c) (0, k) ∗ known m K (peer k c) (2, k))
    ∗ reached exE (exCell (peer k c) (0, k)) 0 ∗ reached exE (exCell (peer k c) (2, k)) 0
    ∗ reached exE (exCell c (1, k)) 0 ∗ reached exE (exCell c (2, k)) 0)

instance facts_persistent (K : Names) (c : Dev nD) (k : Fin 7) : BI.Persistent (facts m K c k) := by unfold facts; infer_instance

/-- The device's place at one of its cells: before (`r = 0`) or after (`r = 1`) the one wait. -/
abbrev at_ (c : Dev nD) (p : Fin 3 × Fin 7) (r : ℕ) : sProp 𝕄 := atPos exE (exCell c p) r ∅ 0
/-- The right to make the one contribution to a cell. -/
abbrev tok (c : Dev nD) (p : Fin 3 × Fin 7) : sProp 𝕄 := dutyTok exE (exCell c p) 0 ()
/-- The right to wait for the contribution. -/
abbrev due (c : Dev nD) (p : Fin 3 × Fin 7) (n : ℕ) : sProp 𝕄 := cred (tallyAt (exCell c p) () n)

/-- Slot `k` as the kernel begins, without the blocks of the buffers. -/
def opening (c : Dev nD) (k : Fin 7) : sProp 𝕄 :=
  iprop((at_ c (0, k) 0 ∗ at_ c (1, k) 0 ∗ at_ c (2, k) 0) ∗ (tok (peer k c) (0, k) ∗ tok c (1, k) ∗ tok (peer k c) (2, k)))

/-- The credit slot `k` begins with: for its partner's announcement and its partner's copy. -/
def credit (c : Dev nD) (k : Fin 7) : sProp 𝕄 := iprop(due c (0, k) 1 ∗ due c (2, k) N)

/-- Entered: nothing done yet for slot `k`. -/
def entered (K : Names) (c : Dev nD) (k : Fin 7) : sProp 𝕄 :=
  iprop(facts m K c k ∗ opening c k ∗ credit c k ∗ xHeld c (peer k c) (xIn m c) ∗ ∃ f, yHeld c (peer k c) f)
/-- Announced: the partner may write the row block it has been given. -/
def announced (K : Names) (c : Dev nD) (k : Fin 7) : sProp 𝕄 :=
  iprop(facts m K c k ∗ (at_ c (0, k) 0 ∗ at_ c (1, k) 0 ∗ at_ c (2, k) 0) ∗ (tok c (1, k) ∗ tok (peer k c) (2, k)) ∗ credit c k
    ∗ xHeld c (peer k c) (xIn m c))
/-- Welcomed: the device may write its row block of the partner's result. -/
def welcomed (K : Names) (c : Dev nD) (k : Fin 7) : sProp 𝕄 :=
  iprop(facts m K c k ∗ (at_ c (0, k) 1 ∗ at_ c (1, k) 0 ∗ at_ c (2, k) 0) ∗ (tok c (1, k) ∗ tok (peer k c) (2, k)) ∗ due c (2, k) N
    ∗ xHeld c (peer k c) (xIn m c) ∗ ∃ f, yHeld (peer k c) c f)
/-- Sent: the copy is under way. -/
def sent (K : Names) (c : Dev nD) (k : Fin 7) : sProp 𝕄 :=
  iprop(facts m K c k ∗ (at_ c (0, k) 1 ∗ at_ c (1, k) 0 ∗ at_ c (2, k) 0) ∗ (due c (1, k) N ∗ due c (2, k) N))
/-- Copied out: the column block is back. -/
def copiedOut (K : Names) (c : Dev nD) (k : Fin 7) : sProp 𝕄 :=
  iprop(facts m K c k ∗ (at_ c (0, k) 1 ∗ at_ c (1, k) 1 ∗ at_ c (2, k) 0) ∗ due c (2, k) N ∗ xHeld c (peer k c) (xIn m c))
/-- Copied in: the partner's row block is back, at the result's contents. -/
def copiedIn (K : Names) (c : Dev nD) (k : Fin 7) : sProp 𝕄 :=
  iprop(facts m K c k ∗ (at_ c (0, k) 1 ∗ at_ c (1, k) 1 ∗ at_ c (2, k) 1) ∗ xHeld c (peer k c) (xIn m c) ∗ yHeld c (peer k c) (yOut m c))
/-- Closed: the three counters at zero. -/
def shut (c : Dev nD) (k : Fin 7) : sProp 𝕄 :=
  iprop((semVal (exCell c (0, k)) 0 ∗ semVal (exCell c (1, k)) 0 ∗ semVal (exCell c (2, k)) 0)
    ∗ xHeld c (peer k c) (xIn m c) ∗ yHeld c (peer k c) (yOut m c))

/-- What the device owes, whichever waits it has made. -/
def owing (c : Dev nD) (O : CellTallies nD τ sig Unit) : sProp 𝕄 := iprop(∃ W, owes (c : Thread nD τ) O W)

/-- The run of a rest of the body on device `c`. -/
abbrev runs (c : Dev nD) {α : Type} (e : Prog (TpuEff nD τ sig (Elt F) Λ₀ .tc) α) (Q : α → sProp 𝕄) : sProp 𝕄 :=
  wp frame (wpE (defs₀ (F := F)) Variants.none (c : Thread nD τ) none) Set.univ e Q

section Steps

variable (K : Names) (c : Dev nD) (k : Fin 7)

omit [FloatOps F] in
theorem in_duties (d : Dev nD) (p : Fin 3 × Fin 7) : () ∈ (exRd (F := F) m).duties (exCell d p) 0 := by
  rw [ex_duties]; exact Finset.mem_singleton_self _

omit [FloatOps F] in
/-- What is known of a slot, one fact at a time. -/
theorem facts_own (i : Fin 3) : facts m K c k ⊢ known m K c (i, k) := by
  unfold facts; iintro ⟨⟨H0, H1, H2, -, -⟩, -⟩
  fin_cases i
  · iexact H0
  · iexact H1
  · iexact H2
omit [FloatOps F] in
theorem facts_peer_ann : facts m K c k ⊢ iprop(known m K (peer k c) (0, k) ∗ reached exE (exCell (peer k c) (0, k)) 0) := by
  unfold facts; iintro ⟨⟨-, -, -, H, -⟩, R, -⟩; isplitl [H] <;> iassumption
omit [FloatOps F] in
theorem facts_peer_copy : facts m K c k ⊢ iprop(known m K (peer k c) (2, k) ∗ reached exE (exCell (peer k c) (2, k)) 0) := by
  unfold facts; iintro ⟨⟨-, -, -, -, H⟩, -, R, -⟩; isplitl [H] <;> iassumption
omit [FloatOps F] in
theorem facts_out : facts m K c k ⊢ reached exE (exCell c (1, k)) 0 := by
  unfold facts; iintro ⟨-, -, -, R, -⟩; iexact R
omit [FloatOps F] in
theorem facts_in : facts m K c k ⊢ reached exE (exCell c (2, k)) 0 := by
  unfold facts; iintro ⟨-, -, -, -, R⟩; iexact R

omit [FloatOps F] in
/-- The amounts, the payloads, what they are made from and what a wait hands over, by kind of cell. -/
theorem amount_snd (d : Dev nD) : (exRd (F := F) m).amount (sndC d k) 0 () = N := ex_amount m d (1, k) ()
omit [FloatOps F] in
theorem amount_rcv (d : Dev nD) : (exRd (F := F) m).amount (rcvC d k) 0 () = N := ex_amount m d (2, k) ()
omit [FloatOps F] in
theorem expect_ann : (0 : ℕ) + 1 = (exRd (F := F) m).expect (annC c k) 0 := (Nat.zero_add 1).trans (ex_expect m c (0, k)).symm
omit [FloatOps F] in
theorem expect_snd : 0 + N = (exRd (F := F) m).expect (sndC c k) 0 := (Nat.zero_add N).trans (ex_expect m c (1, k)).symm
omit [FloatOps F] in
theorem expect_rcv : 0 + N = (exRd (F := F) m).expect (rcvC c k) 0 := (Nat.zero_add N).trans (ex_expect m c (2, k)).symm
omit [FloatOps F] in
theorem snd_made : ((xCols (peer k c)).view.loc (c : Thread nD τ) ↦[(xCols (peer k c)).view.set]{fullShare} xIn m c)
    ⊢ (exRd m).payload (sndC c k) 0 () :=
  Entails.of_eq (ex_payload m c (1, k) ()).symm
omit [FloatOps F] in
theorem rcv_made (f : Buf (Elt F) ((yRows c).view.loc (peer k c : Thread nD τ))) :
    ((yRows c).view.loc (peer k c : Thread nD τ) ↦[(yRows c).view.set]{fullShare}
        ((yRows c).view.write (Elt F) f ((xCols (peer k c)).view.read (Elt F) (xIn m c)) Finset.univ))
      ⊢ (exRd m).payload (rcvC (peer k c) k) 0 () := by
  refine Entails.of_eq (Eq.trans ?_ (ex_payload m (peer k c) (2, k) ()).symm)
  show _ = rcvPay m (peer k c) k
  unfold rcvPay yHeld; rw [peer_invol]
  exact pointsTo_congr fun i hi => moved m (peer k c) c f i hi
omit [FloatOps F] in
theorem rest_ann : bigSep ((exRd (F := F) m).duties (annC c k) 0 \ ∅) (fun u => (exRd (F := F) m).payload (annC c k) 0 u) ⊢ annPay c k :=
  Entails.of_eq (ex_rest m c (0, k))
omit [FloatOps F] in
theorem rest_snd : bigSep ((exRd (F := F) m).duties (sndC c k) 0 \ ∅) (fun u => (exRd (F := F) m).payload (sndC c k) 0 u) ⊢ sndPay m c k :=
  Entails.of_eq (ex_rest m c (1, k))
omit [FloatOps F] in
theorem rest_rcv : bigSep ((exRd (F := F) m).duties (rcvC c k) 0 \ ∅) (fun u => (exRd (F := F) m).payload (rcvC c k) 0 u) ⊢ rcvPay m c k :=
  Entails.of_eq (ex_rest m c (2, k))

/-- The announcement to the partner of slot `k`: it hands the partner this device's row block of the partner. -/
theorem step_announce {α : Type} {Q : α → sProp 𝕄} {e : PUnit → Prog (TpuEff nD τ sig (Elt F) Λ₀ .tc) α}
    (n : Dev nD) (hn : n = peer k c) (s : Sem sig) (hs : s = annS k) (a : ℤ) (ha : a = 1)
    (O : CellTallies nD τ sig Unit) :
    iprop(entered m K c k ∗ owing c (O + dueAnn c k))
      ⊢ iprop(((announced m K c k ∗ owing c O) -∗ runs c (e ⟨⟩) Q) -∗ runs c (.op (.semSignal (n : Thread nD τ) s a) e) Q) := by
  subst hn hs ha
  unfold entered announced owing opening
  iintro ⟨⟨#Hf, ⟨Hat, HtA, HtS, HtR⟩, Hcr, Hx, %f, Hy⟩, %W, HO⟩ Hk
  ihave #HP := (facts_peer_ann m K c k) $$ Hf
  icases HP with ⟨#HP0, #HrP0⟩
  iapply (Rounds.wp_signal Variants.none exE (exRd m) (c : Thread nD τ) none (dst := (peer k c : Thread nD τ)) (sem := annS k)
      (κ := K (peer k c, (0, k))) (in_duties m (peer k c) (0, k)) (ex_amount m (peer k c) (0, k) ()) () O rfl) $$ [HO HtA Hy]
  · isplitr; · iexact HP0
    isplitl [HO]; · iexact HO
    isplitl [HtA]; · iexact HtA
    isplitl [Hy]
    · iapply (show annPay (peer k c) k ⊢ (exRd m).payload (annC (peer k c) k) 0 () from
        Entails.of_eq (ex_payload m (peer k c) (0, k) ()).symm)
      unfold annPay; rw [peer_invol]
      isplitl [Hy]
      · iexists f; iexact Hy
      · iapply (facts_in m K c k); iexact Hf
    · iexact HrP0
  iintro HO
  iapply Hk
  isplitr [HO]
  · isplitr; · iexact Hf
    isplitl [Hat]; · iexact Hat
    isplitl [HtS HtR]
    · isplitl [HtS] <;> iassumption
    isplitl [Hcr] <;> iassumption
  · iexists W; iexact HO

/-- The wait for the partner's announcement, while copies are owed: it hands over this device's row block of the
    partner's result. -/
theorem step_welcome {α : Type} {Q : α → sProp 𝕄} {e : PUnit → Prog (TpuEff nD τ sig (Elt F) Λ₀ .tc) α}
    (ks : List (Fin 7)) (w : TpuEff nD τ sig (Elt F) Λ₀ .tc PUnit)
    (hw : ∀ R : PUnit → sProp 𝕄, wpE (defs₀ (F := F)) Variants.none (c : Thread nD τ) none Set.univ w R
      = waitSpec (c : Thread nD τ) Set.univ (.reg (annS k)) 1 R) :
    iprop(announced m K c k ∗ owing c (copiesDue c ks) ∗ levAts lvOn lv)
      ⊢ iprop(((welcomed m K c k ∗ owing c (copiesDue c ks)) -∗ runs c (e ⟨⟩) Q) -∗ runs c (.op w e) Q) := by
  unfold announced welcomed owing credit
  iintro ⟨⟨#Hf, ⟨Hat0, Hat1, Hat2⟩, Htok, ⟨Hd, Hd2⟩, Hx⟩, ⟨%W, HO⟩, #Hlev⟩ Hk
  iapply (Rounds.wp_wait_rest_token Variants.none exE (exRd m) (c : Thread nD τ) none (κ := K (c, (0, k)))
      hw (Set.mem_univ _) () (O := copiesDue c ks) (W := W) (R := 0) (m := 0) (T := ∅)
      (expect_ann m c k)) $$ [Hd HO Hat0]
  · isplitr; · iapply (facts_own m K c k 0); iexact Hf
    isplitl [Hd]; · iexact Hd
    isplitl [HO]; · iexact HO
    isplitr; · iapply (may_ann c k ks); iexact Hlev
    iexact Hat0
  iintro ⟨HO, Hat0, -, Hpay⟩
  ihave Hp := (rest_ann m c k) $$ Hpay
  unfold annPay
  icases Hp with ⟨Hy, -⟩
  iapply Hk
  isplitr [HO]
  · isplitr; · iexact Hf
    isplitl [Hat0 Hat1 Hat2]
    · isplitl [Hat0]; · iexact Hat0
      isplitl [Hat1]
      · iexact Hat1
      · iexact Hat2
    isplitl [Htok]; · iexact Htok
    isplitl [Hd2]; · iexact Hd2
    isplitl [Hx] <;> iassumption
  · iexists _; iexact HO

/-- The addressed copy of slot `k`, on what it takes and what it leaves. -/
theorem send_core {α : Type} {Q : α → sProp 𝕄} {e : PUnit → Prog (TpuEff nD τ sig (Elt F) Λ₀ .tc) α}
    (f : Buf (Elt F) ((yRows c).view.loc (peer k c : Thread nD τ))) (O : CellTallies nD τ sig Unit) (W : Waits sig Unit)
    {hsc : (yRows c : Memref sig (Dev.tc (peer k c) : Thread nD τ).2.kind .vmem S256x256 .f32).view.ref.isScScratch = false}
    {hsrc : (xCols (peer k c)).view.WordExact} {hdst : (yRows c).view.WordExact}
    {hsem : DmaTarget.Typed .vmem (.dma (rcvS k)) (.remote (Dev.tc (peer k c) : Thread nD τ) (yRows c) (.dma (sndS k)) hsc)} :
    iprop(cellInv exE (exRd m) (K (c, (1, k))) (sndC c k) ∗ cellInv exE (exRd m) (K (peer k c, (2, k))) (rcvC (peer k c) k)
        ∗ ((xCols (peer k c)).view.loc (c : Thread nD τ) ↦[(xCols (peer k c)).view.set]{fullShare} xIn m c)
        ∗ ((yRows c).view.loc (peer k c : Thread nD τ) ↦[(yRows c).view.set]{fullShare} f)
        ∗ owes (c : Thread nD τ) (O + tallyAt (rcvC (peer k c) k) () N) W
        ∗ dutyTok exE (sndC c k) 0 () ∗ reached exE (sndC c k) 0
        ∗ dutyTok exE (rcvC (peer k c) k) 0 () ∗ reached exE (rcvC (peer k c) k) 0)
      ⊢ iprop(((cred (tallyAt (sndC c k) () N) ∗ owes (c : Thread nD τ) O W) -∗ runs c (e ⟨⟩) Q)
          -∗ runs c (.op (.enqueueDma (xCols (peer k c)) (.remote (Dev.tc (peer k c) : Thread nD τ) (yRows c) (.dma (sndS k)) hsc)
              (.dma (rcvS k)) hsrc hdst hsem) e) Q) :=
  Rounds.wp_send_pointsTo Variants.none exE (exRd m) (c : Thread nD τ) none (κ₁ := K (c, (1, k))) (κ₂ := K (peer k c, (2, k)))
    (r₁ := 0) (r₂ := 0) (d₁ := ()) (d₂ := ()) (fd := f) (in_duties m c (1, k)) (in_duties m (peer k c) (2, k))
    () () N rfl (amount_snd m k c) (amount_rcv m k (peer k c)) O rfl (W := W) (snd_made m c k) (rcv_made m c k f)

/-- The copy to the partner of slot `k`: the column block of the partner goes to this device's row block of the
    partner's result. -/
theorem step_send {α : Type} {Q : α → sProp 𝕄} {e : PUnit → Prog (TpuEff nD τ sig (Elt F) Λ₀ .tc) α}
    (n : Dev nD) (hn : n = peer k c) (src : Memref sig .tc .vmem S256x256 .f32) (hs : src = xCols (peer k c))
    (dst : Memref sig (Dev.tc n : Thread nD τ).2.kind .vmem S256x256 .f32) (hd : dst = yRows c)
    (so : DmaSem sig) (hso : so = sndS k) (si : DmaSem sig) (hsi : si = rcvS k) (ks : List (Fin 7))
    {hsc : dst.view.ref.isScScratch = false} {hsrc : src.view.WordExact} {hdst : dst.view.WordExact}
    {hsem : DmaTarget.Typed .vmem (.dma si) (.remote (Dev.tc n : Thread nD τ) dst (.dma so) hsc)} :
    iprop(welcomed m K c k ∗ owing c (copiesDue c (k :: ks)))
      ⊢ iprop(((sent m K c k ∗ owing c (copiesDue c ks)) -∗ runs c (e ⟨⟩) Q)
          -∗ runs c (.op (.enqueueDma src (.remote (Dev.tc n : Thread nD τ) dst (.dma so) hsc) (.dma si) hsrc hdst hsem) e) Q) := by
  subst hn hs hd hso hsi
  unfold welcomed sent owing
  iintro ⟨⟨#Hf, Hat, ⟨HtS, HtR⟩, Hd2, Hx, %f, Hy⟩, %W, HO⟩ Hk
  ihave #HP := (facts_peer_copy m K c k) $$ Hf
  icases HP with ⟨#HP2, #HrP2⟩
  unfold xHeld yHeld
  iapply (send_core m K c k f (copiesDue c ks) W) $$ [Hx Hy HO HtS HtR]
  · isplitr; · iapply (facts_own m K c k 1); iexact Hf
    isplitr; · iexact HP2
    isplitl [Hx]; · iexact Hx
    isplitl [Hy]; · iexact Hy
    isplitl [HO]; · iexact HO
    isplitl [HtS]; · iexact HtS
    isplitr; · iapply (facts_out m K c k); iexact Hf
    isplitl [HtR]; · iexact HtR
    iexact HrP2
  iintro ⟨Hd1, HO⟩
  iapply Hk
  isplitr [HO]
  · isplitr; · iexact Hf
    isplitl [Hat]; · iexact Hat
    isplitl [Hd1]
    · iexact Hd1
    · iexact Hd2
  · iexists W; iexact HO

/-- The wait for the copy out: the column block comes back. -/
theorem step_out {α : Type} {Q : α → sProp 𝕄} {e : PUnit → Prog (TpuEff nD τ sig (Elt F) Λ₀ .tc) α}
    (w : TpuEff nD τ sig (Elt F) Λ₀ .tc PUnit)
    (hw : ∀ R : PUnit → sProp 𝕄, wpE (defs₀ (F := F)) Variants.none (c : Thread nD τ) none Set.univ w R
      = waitSpec (c : Thread nD τ) Set.univ (.dma (sndS k)) N R) :
    iprop(sent m K c k ∗ owing c 0)
      ⊢ iprop(((copiedOut m K c k ∗ owing c 0) -∗ runs c (e ⟨⟩) Q) -∗ runs c (.op w e) Q) := by
  unfold sent copiedOut owing
  iintro ⟨⟨#Hf, ⟨Hat0, Hat1, Hat2⟩, Hd, Hd2⟩, %W, HO⟩ Hk
  iapply (Rounds.wp_wait_rest_token Variants.none exE (exRd m) (c : Thread nD τ) none (κ := K (c, (1, k)))
      hw (Set.mem_univ _) () (O := 0) (W := W) (R := 0) (m := 0) (T := ∅)
      (expect_snd m c k)) $$ [Hd HO Hat1]
  · isplitr; · iapply (facts_own m K c k 1); iexact Hf
    isplitl [Hd]; · iexact Hd
    isplitl [HO]; · iexact HO
    isplitr; · rw [MayWait_zero]; iempintro
    iexact Hat1
  iintro ⟨HO, Hat1, -, Hpay⟩
  ihave Hp := (rest_snd m c k) $$ Hpay
  unfold sndPay
  iapply Hk
  isplitr [HO]
  · isplitr; · iexact Hf
    isplitl [Hat0 Hat1 Hat2]
    · isplitl [Hat0]; · iexact Hat0
      isplitl [Hat1]
      · iexact Hat1
      · iexact Hat2
    isplitl [Hd2] <;> iassumption
  · iexists _; iexact HO

/-- The wait for the copy in: the partner's row block comes back, at the result's contents. -/
theorem step_in {α : Type} {Q : α → sProp 𝕄} {e : PUnit → Prog (TpuEff nD τ sig (Elt F) Λ₀ .tc) α}
    (w : TpuEff nD τ sig (Elt F) Λ₀ .tc PUnit)
    (hw : ∀ R : PUnit → sProp 𝕄, wpE (defs₀ (F := F)) Variants.none (c : Thread nD τ) none Set.univ w R
      = waitSpec (c : Thread nD τ) Set.univ (.dma (rcvS k)) N R) :
    iprop(copiedOut m K c k ∗ owing c 0)
      ⊢ iprop(((copiedIn m K c k ∗ owing c 0) -∗ runs c (e ⟨⟩) Q) -∗ runs c (.op w e) Q) := by
  unfold copiedOut copiedIn owing
  iintro ⟨⟨#Hf, ⟨Hat0, Hat1, Hat2⟩, Hd, Hx⟩, %W, HO⟩ Hk
  iapply (Rounds.wp_wait_rest_token Variants.none exE (exRd m) (c : Thread nD τ) none (κ := K (c, (2, k)))
      hw (Set.mem_univ _) () (O := 0) (W := W) (R := 0) (m := 0) (T := ∅)
      (expect_rcv m c k)) $$ [Hd HO Hat2]
  · isplitr; · iapply (facts_own m K c k 2); iexact Hf
    isplitl [Hd]; · iexact Hd
    isplitl [HO]; · iexact HO
    isplitr; · rw [MayWait_zero]; iempintro
    iexact Hat2
  iintro ⟨HO, Hat2, -, Hpay⟩
  ihave Hp := (rest_rcv m c k) $$ Hpay
  unfold rcvPay
  iapply Hk
  isplitr [HO]
  · isplitr; · iexact Hf
    isplitl [Hat0 Hat1 Hat2]
    · isplitl [Hat0]; · iexact Hat0
      isplitl [Hat1]
      · iexact Hat1
      · iexact Hat2
    isplitl [Hx] <;> iassumption
  · iexists _; iexact HO

omit [FloatOps F] in
/-- Nothing more can arrive at a slot's cells: their counters are at zero. -/
theorem step_shut : copiedIn m K c k ⊢ iprop(|={Set.univ}=> shut m c k) := by
  unfold copiedIn shut
  iintro ⟨#Hf, ⟨Hat0, Hat1, Hat2⟩, Hx, Hy⟩
  imod (Rounds.cell_close exE (exRd m) (Set.mem_univ (K (c, (0, k)))) (fun h => h) (R := 1) (ex_done m (exCell c (0, k)))) $$ [Hat0] with Hz0
  · isplitr; · iapply (facts_own m K c k 0); iexact Hf
    iexact Hat0
  imod (Rounds.cell_close exE (exRd m) (Set.mem_univ (K (c, (1, k)))) (fun h => h) (R := 1) (ex_done m (exCell c (1, k)))) $$ [Hat1] with Hz1
  · isplitr; · iapply (facts_own m K c k 1); iexact Hf
    iexact Hat1
  imod (Rounds.cell_close exE (exRd m) (Set.mem_univ (K (c, (2, k)))) (fun h => h) (R := 1) (ex_done m (exCell c (2, k)))) $$ [Hat2] with Hz2
  · isplitr; · iapply (facts_own m K c k 2); iexact Hf
    iexact Hat2
  imodintro
  isplitl [Hz0 Hz1 Hz2]
  · isplitl [Hz0]; · iexact Hz0
    isplitl [Hz1] <;> iassumption
  isplitl [Hx] <;> iassumption

end Steps

end Cert.AllToAll

end
-- ==== Proof.Body.lean ====
/-
One device's run of the kernel body.

The kernel is run once, at a symbolic device, over any float values: seven announcements, seven waits each followed by its
copy, the device's own block, and the waits for the fourteen copies. The steps are those of `Steps`; this module adds the
device's own block, the addresses the program computes, and how the two staged buffers are cut up and put back together.
-/
module

public import proofs.«01_k».proof.Proof.Steps
public import Idealize.ShloMosaic.Lib.Pipeline.Value

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Gh ℕ

variable (m : (ℓ : Loc nD τ sig) → Buf (Elt F) ℓ)

/-! ## The addresses the program computes -/

theorem to_ann0 : ∀ c : Dev nD, (⟨k0_dev1 c, k0_dev1_lt c⟩ : Dev nD) = peer 0 c := by decide +kernel
theorem to_ann1 : ∀ c : Dev nD, (⟨k0_dev2 c, k0_dev2_lt c⟩ : Dev nD) = peer 1 c := by decide +kernel
theorem to_ann2 : ∀ c : Dev nD, (⟨k0_dev3 c, k0_dev3_lt c⟩ : Dev nD) = peer 2 c := by decide +kernel
theorem to_ann3 : ∀ c : Dev nD, (⟨k0_dev4 c, k0_dev4_lt c⟩ : Dev nD) = peer 3 c := by decide +kernel
theorem to_ann4 : ∀ c : Dev nD, (⟨k0_dev5 c, k0_dev5_lt c⟩ : Dev nD) = peer 4 c := by decide +kernel
theorem to_ann5 : ∀ c : Dev nD, (⟨k0_dev6 c, k0_dev6_lt c⟩ : Dev nD) = peer 5 c := by decide +kernel
theorem to_ann6 : ∀ c : Dev nD, (⟨k0_dev7 c, k0_dev7_lt c⟩ : Dev nD) = peer 6 c := by decide +kernel
theorem to_copy0 : ∀ c : Dev nD, (⟨k0_dev8 c, k0_dev8_lt c⟩ : Dev nD) = peer 0 c := by decide +kernel
theorem to_copy1 : ∀ c : Dev nD, (⟨k0_dev9 c, k0_dev9_lt c⟩ : Dev nD) = peer 1 c := by decide +kernel
theorem to_copy2 : ∀ c : Dev nD, (⟨k0_dev10 c, k0_dev10_lt c⟩ : Dev nD) = peer 2 c := by decide +kernel
theorem to_copy3 : ∀ c : Dev nD, (⟨k0_dev11 c, k0_dev11_lt c⟩ : Dev nD) = peer 3 c := by decide +kernel
theorem to_copy4 : ∀ c : Dev nD, (⟨k0_dev12 c, k0_dev12_lt c⟩ : Dev nD) = peer 4 c := by decide +kernel
theorem to_copy5 : ∀ c : Dev nD, (⟨k0_dev13 c, k0_dev13_lt c⟩ : Dev nD) = peer 5 c := by decide +kernel
theorem to_copy6 : ∀ c : Dev nD, (⟨k0_dev14 c, k0_dev14_lt c⟩ : Dev nD) = peer 6 c := by decide +kernel

/-- The offset of the column block a slot sends. -/
theorem off_cols : ∀ (k : Fin 7) (c : Dev nD), k0_off2 c (k0_off2_at k).1 (k0_off2_at k).2.1 (k0_off2_at k).2.2.1 (k0_off2_at k).2.2.2.1
    (k0_off2_at k).2.2.2.2.1 (k0_off2_at k).2.2.2.2.2 = ![0, 256 * (peer k c).val] := by decide +kernel

/-- A column block named by an offset that is its own. -/
theorem cols_at (j : Dev nD) (o : Fin 2 → ℕ) (h : o = ![0, 256 * j.val]) (inb : ∀ a, o a + S256x256.size a ≤ S256x2048.size a) :
    xBuf.slice (Rect.unit (s := S256x2048) o S256x256.size inb) (fun _ => rfl) = xCols j := by subst h; rfl
/-- A row block named by an offset that is its own. -/
theorem rows_at (j : Dev nD) (o : Fin 2 → ℕ) (h : o = ![256 * j.val, 0]) (inb : ∀ a, o a + S256x256.size a ≤ S2048x256.size a) :
    yBuf.slice (Rect.unit (s := S2048x256) o S256x256.size inb) (fun _ => rfl) = yRows j := by subst h; rfl

/-! ## The device's own block -/

/-- The store's reshape keeps the shape. -/
theorem pay_eq (v : Vec F S256x256 .f32) : k0_pay1 v = v := shapeCast_self v _

/-- What the store leaves in the device's own row block. -/
theorem own_moved (c : Dev nD) (f : (cc0_stg1_0 : Ref sig .tc).ty.Contents (Elt F)) (i : S2048x256.Idx) (hi : i ∈ (yRows c).view.set) :
    (yBuf.access (rowsR c)).write (Elt F) f (k0_pay1 ((xBuf.access (colsR c)).read (Elt F) (xIn m c))) Finset.univ i = yOut m c i := by
  rw [pay_eq]; exact moved m c c f i hi

/-- The device's own column block is read and written to its own row block of the result. -/
theorem step_own {α : Type} {Q : α → sProp 𝕄} {e : PUnit → Prog (TpuEff nD τ sig (Elt F) Λ₀ .tc) α} (c : Dev nD)
    (o : Fin 2 → ℕ) (ho : o = ![0, 256 * c.val]) (oi : ∀ a, o a + S256x256.size a ≤ S256x2048.size a)
    (p : Fin 2 → ℕ) (hp : p = ![256 * c.val, 0]) (pi : ∀ a, p a + S256x256.size a ≤ S2048x256.size a)
    (f : (cc0_stg1_0 : Ref sig .tc).ty.Contents (Elt F))
    {h1 : xBuf.view.LoadsAt (Rect.unit (s := S256x2048) o S256x256.size oi).toLoadRect}
    {h2 : yBuf.view.LoadsAt (Rect.unit (s := S2048x256) p S256x256.size pi).toLoadRect}
    {h3 : (yBuf.access (Rect.unit (s := S2048x256) p S256x256.size pi)).Stores Finset.univ}
    {h4 : (Finset.univ : Finset (Rect.unit (s := S2048x256) p S256x256.size pi).shape.Idx) = Finset.univ ∨ ∀ a, (Rect.unit (s := S2048x256) p S256x256.size pi).stride a = 1} :
    iprop(xHeld c c (xIn m c) ∗ yHeld c c f)
      ⊢ iprop(((xHeld c c (xIn m c) ∗ yHeld c c (yOut m c)) -∗ runs c (e ⟨⟩) Q)
          -∗ runs c (.op (.load xBuf (Rect.unit (s := S256x2048) o S256x256.size oi).toLoadRect h1) fun v =>
              .op (.load yBuf (Rect.unit (s := S2048x256) p S256x256.size pi).toLoadRect h2) fun _ =>
              .op (.store yBuf (Rect.unit (s := S2048x256) p S256x256.size pi) (k0_pay1 v) Finset.univ h3 h4) e) Q) := by
  subst ho hp
  unfold xHeld yHeld
  iintro ⟨Hx, Hy⟩ Hk
  iapply (wp_load_rect Variants.none (c : Thread nD τ) none Set.univ (m := xBuf) (r := colsR c) (S := (xCols c).view.set) (Finset.Subset.refl _)) $$ Hx
  iintro Hx
  iapply (wp_load_rect Variants.none (c : Thread nD τ) none Set.univ (m := yBuf) (r := rowsR c) (S := (yRows c).view.set) (Finset.Subset.refl _)) $$ Hy
  iintro Hy
  iapply (wp_store Variants.none (c : Thread nD τ) none Set.univ (m := yBuf) (r := rowsR c) (Mk := Finset.univ) (S := (yRows c).view.set) (Finset.Subset.refl _)) $$ Hy
  iintro Hy
  iapply Hk
  isplitl [Hx]; · iexact Hx
  iapply (Entails.of_eq (pointsTo_congr (own_moved m c f))); iexact Hy

/-! ## Cutting up the two buffers -/

omit [FloatOps F] in
theorem bigSep_slots (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- What a device begins the exchange with, besides the two buffers and its debt. -/
def dealt (K : Names) (c : Dev nD) : sProp 𝕄 := bigSep Finset.univ fun k => iprop(facts m K c k ∗ opening c k ∗ credit c k)

/-- The counters of the exchange, all at zero. -/
def allZero (c : Dev nD) : sProp 𝕄 :=
  bigSep Finset.univ fun k => iprop(semVal (exCell c (0, k)) 0 ∗ semVal (exCell c (1, k)) 0 ∗ semVal (exCell c (2, k)) 0)

abbrev xWhole (c : Dev nD) (f : (cc0_stg0_0 : Ref sig .tc).ty.Contents (Elt F)) : sProp 𝕄 := ((c : Thread nD τ).loc cc0_stg0_0) ↦{fullShare} f
abbrev yWhole (c : Dev nD) (f : (cc0_stg1_0 : Ref sig .tc).ty.Contents (Elt F)) : sProp 𝕄 := ((c : Thread nD τ).loc cc0_stg1_0) ↦{fullShare} f

omit [FloatOps F] in
/-- The two buffers cut into the blocks of the seven slots and the device's own. -/
theorem cut (K : Names) (c : Dev nD) (f : (cc0_stg1_0 : Ref sig .tc).ty.Contents (Elt F)) :
    iprop(dealt m K c ∗ xWhole c (xIn m c) ∗ yWhole c f)
      ⊢ iprop((bigSep Finset.univ fun k => entered m K c k) ∗ xHeld c c (xIn m c) ∗ yHeld c c f) := by
  unfold dealt xWhole yWhole
  rw [x_blocks, y_blocks, bigSep_around c, bigSep_around c]
  iintro ⟨Hd, ⟨Hxc, Hx⟩, Hyc, Hy⟩
  isplitr [Hxc Hyc]
  · have key : iprop((bigSep Finset.univ fun k => iprop(facts m K c k ∗ opening c k ∗ credit c k))
        ∗ (bigSep Finset.univ fun k => xHeld c (peer k c) (xIn m c)) ∗ (bigSep Finset.univ fun k => yHeld c (peer k c) f))
        ⊢ (bigSep Finset.univ fun k => entered m K c k : sProp 𝕄) := by
      rw [← bigSep_sep', ← bigSep_sep']
      refine bigSep_mono fun k _ => ?_
      show (iprop((facts m K c k ∗ opening c k ∗ credit c k) ∗ xHeld c (peer k c) (xIn m c) ∗ yHeld c (peer k c) f) : sProp 𝕄) ⊢ entered m K c k
      unfold entered
      iintro ⟨⟨Hf, Ho, Hc⟩, Hx, Hy⟩
      isplitl [Hf]; · iexact Hf
      isplitl [Ho]; · iexact Ho
      isplitl [Hc]; · iexact Hc
      isplitl [Hx]; · iexact Hx
      iexists f; iexact Hy
    iapply key
    isplitl [Hd]; · iexact Hd
    isplitl [Hx] <;> iassumption
  · isplitl [Hxc] <;> iassumption

omit [FloatOps F] in
/-- The blocks put together again. -/
theorem mend (c : Dev nD) :
    iprop((bigSep Finset.univ fun k => shut m c k) ∗ xHeld c c (xIn m c) ∗ yHeld c c (yOut m c))
      ⊢ iprop(allZero c ∗ xWhole c (xIn m c) ∗ yWhole c (yOut m c)) := by
  unfold allZero xWhole yWhole
  rw [x_blocks, y_blocks, bigSep_around c, bigSep_around c]
  have key : (bigSep Finset.univ fun k => shut m c k : sProp 𝕄)
      = iprop((bigSep Finset.univ fun k => iprop(semVal (exCell c (0, k)) 0 ∗ semVal (exCell c (1, k)) 0 ∗ semVal (exCell c (2, k)) 0))
        ∗ (bigSep Finset.univ fun k => xHeld c (peer k c) (xIn m c)) ∗ (bigSep Finset.univ fun k => yHeld c (peer k c) (yOut m c))) := by
    rw [← bigSep_sep', ← bigSep_sep']; rfl
  rw [key]
  iintro ⟨⟨Hz, Hx, Hy⟩, Hxc, Hyc⟩
  isplitl [Hz]; · iexact Hz
  isplitl [Hxc Hx]
  · isplitl [Hxc] <;> iassumption
  · isplitl [Hyc] <;> iassumption

/-! ## The run -/

/-- The kernel body on the two staged buffers and the call's semaphores. -/
abbrev body : Prog (TpuEff nD τ sig (Elt F) Λ₀ .tc) PUnit :=
  cc0_body xBuf (Memref.isWhole_whole _) yBuf (Memref.isWhole_whole _) cc0_scratch0 cc0_scratch1 cc0_scratch2 cc0_scratch3

set_option maxHeartbeats 4000000 in
theorem body_run (K : Names) (c : Dev nD) (f : (cc0_stg1_0 : Ref sig .tc).ty.Contents (Elt F)) (Q : PUnit → sProp 𝕄) :
    iprop((dealt m K c ∗ xWhole c (xIn m c) ∗ yWhole c f) ∗ owing c (debt c) ∗ levAts lvOn lv)
      ⊢ iprop(((allZero c ∗ xWhole c (xIn m c) ∗ yWhole c (yOut m c) ∗ owing c 0) -∗ Q ⟨⟩) -∗ runs c (body (F := F)) Q) := by
  unfold body
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel
  simp only [semSignalWord, semWaitWord, Prog.lift, Prog.bind_op, Prog.bind_ret, Prog.pure_eq_ret, wp_deviceId]
  iintro ⟨Hpre, HO, #Hlev⟩ Hk
  ihave Hcut := (cut m K c f) $$ Hpre
  rw [bigSep_slots]
  icases Hcut with ⟨⟨H0, H1, H2, H3, H4, H5, H6⟩, Hx, Hy⟩
  simp only [debt, slots, annsDue]
  -- the seven announcements
  iapply (step_announce m K c 0 _ (to_ann0 c) _ rfl _ rfl _) $$ [H0 HO]
  · isplitl [H0] <;> iassumption
  iintro ⟨H0, HO⟩
  iapply (step_announce m K c 1 _ (to_ann1 c) _ rfl _ rfl _) $$ [H1 HO]
  · isplitl [H1] <;> iassumption
  iintro ⟨H1, HO⟩
  iapply (step_announce m K c 2 _ (to_ann2 c) _ rfl _ rfl _) $$ [H2 HO]
  · isplitl [H2] <;> iassumption
  iintro ⟨H2, HO⟩
  iapply (step_announce m K c 3 _ (to_ann3 c) _ rfl _ rfl _) $$ [H3 HO]
  · isplitl [H3] <;> iassumption
  iintro ⟨H3, HO⟩
  iapply (step_announce m K c 4 _ (to_ann4 c) _ rfl _ rfl _) $$ [H4 HO]
  · isplitl [H4] <;> iassumption
  iintro ⟨H4, HO⟩
  iapply (step_announce m K c 5 _ (to_ann5 c) _ rfl _ rfl _) $$ [H5 HO]
  · isplitl [H5] <;> iassumption
  iintro ⟨H5, HO⟩
  iapply (step_announce m K c 6 _ (to_ann6 c) _ rfl _ rfl _) $$ [H6 HO]
  · isplitl [H6] <;> iassumption
  iintro ⟨H6, HO⟩
  -- each slot's wait for its partner, then its copy
  iapply (step_welcome m K c 0 [0, 1, 2, 3, 4, 5, 6] _ (fun _ => rfl)) $$ [H0 HO]
  · isplitl [H0]; · iexact H0
    isplitl [HO]; · iexact HO
    iexact Hlev
  iintro ⟨H0, HO⟩
  iapply (step_send m K c 0 _ (to_copy0 c) _ (cols_at _ _ (off_cols 0 c) _) _ (rows_at _ _ (k0_off1_eq c) _) _ rfl _ rfl [1, 2, 3, 4, 5, 6]) $$ [H0 HO]
  · isplitl [H0] <;> iassumption
  iintro ⟨H0, HO⟩
  iapply (step_welcome m K c 1 [1, 2, 3, 4, 5, 6] _ (fun _ => rfl)) $$ [H1 HO]
  · isplitl [H1]; · iexact H1
    isplitl [HO]; · iexact HO
    iexact Hlev
  iintro ⟨H1, HO⟩
  iapply (step_send m K c 1 _ (to_copy1 c) _ (cols_at _ _ (off_cols 1 c) _) _ (rows_at _ _ (k0_off1_eq c) _) _ rfl _ rfl [2, 3, 4, 5, 6]) $$ [H1 HO]
  · isplitl [H1] <;> iassumption
  iintro ⟨H1, HO⟩
  iapply (step_welcome m K c 2 [2, 3, 4, 5, 6] _ (fun _ => rfl)) $$ [H2 HO]
  · isplitl [H2]; · iexact H2
    isplitl [HO]; · iexact HO
    iexact Hlev
  iintro ⟨H2, HO⟩
  iapply (step_send m K c 2 _ (to_copy2 c) _ (cols_at _ _ (off_cols 2 c) _) _ (rows_at _ _ (k0_off1_eq c) _) _ rfl _ rfl [3, 4, 5, 6]) $$ [H2 HO]
  · isplitl [H2] <;> iassumption
  iintro ⟨H2, HO⟩
  iapply (step_welcome m K c 3 [3, 4, 5, 6] _ (fun _ => rfl)) $$ [H3 HO]
  · isplitl [H3]; · iexact H3
    isplitl [HO]; · iexact HO
    iexact Hlev
  iintro ⟨H3, HO⟩
  iapply (step_send m K c 3 _ (to_copy3 c) _ (cols_at _ _ (off_cols 3 c) _) _ (rows_at _ _ (k0_off1_eq c) _) _ rfl _ rfl [4, 5, 6]) $$ [H3 HO]
  · isplitl [H3] <;> iassumption
  iintro ⟨H3, HO⟩
  iapply (step_welcome m K c 4 [4, 5, 6] _ (fun _ => rfl)) $$ [H4 HO]
  · isplitl [H4]; · iexact H4
    isplitl [HO]; · iexact HO
    iexact Hlev
  iintro ⟨H4, HO⟩
  iapply (step_send m K c 4 _ (to_copy4 c) _ (cols_at _ _ (off_cols 4 c) _) _ (rows_at _ _ (k0_off1_eq c) _) _ rfl _ rfl [5, 6]) $$ [H4 HO]
  · isplitl [H4] <;> iassumption
  iintro ⟨H4, HO⟩
  iapply (step_welcome m K c 5 [5, 6] _ (fun _ => rfl)) $$ [H5 HO]
  · isplitl [H5]; · iexact H5
    isplitl [HO]; · iexact HO
    iexact Hlev
  iintro ⟨H5, HO⟩
  iapply (step_send m K c 5 _ (to_copy5 c) _ (cols_at _ _ (off_cols 5 c) _) _ (rows_at _ _ (k0_off1_eq c) _) _ rfl _ rfl [6]) $$ [H5 HO]
  · isplitl [H5] <;> iassumption
  iintro ⟨H5, HO⟩
  iapply (step_welcome m K c 6 [6] _ (fun _ => rfl)) $$ [H6 HO]
  · isplitl [H6]; · iexact H6
    isplitl [HO]; · iexact HO
    iexact Hlev
  iintro ⟨H6, HO⟩
  iapply (step_send m K c 6 _ (to_copy6 c) _ (cols_at _ _ (off_cols 6 c) _) _ (rows_at _ _ (k0_off1_eq c) _) _ rfl _ rfl []) $$ [H6 HO]
  · isplitl [H6] <;> iassumption
  iintro ⟨H6, HO⟩
  -- the device's own block
  iapply (step_own m c _ (k0_off3_eq c) _ _ (k0_off4_eq c) _ f) $$ [Hx Hy]
  · isplitl [Hx] <;> iassumption
  iintro ⟨Hx, Hy⟩
  ihave HO := (show owing (F := F) c (copiesDue c []) ⊢ owing c 0 from Entails.refl _) $$ HO
  -- the waits for the copies
  iapply (step_out m K c 0 _ (fun _ => rfl)) $$ [H0 HO]
  · isplitl [H0] <;> iassumption
  iintro ⟨H0, HO⟩
  iapply (step_in m K c 0 _ (fun _ => rfl)) $$ [H0 HO]
  · isplitl [H0] <;> iassumption
  iintro ⟨H0, HO⟩
  iapply (step_out m K c 1 _ (fun _ => rfl)) $$ [H1 HO]
  · isplitl [H1] <;> iassumption
  iintro ⟨H1, HO⟩
  iapply (step_in m K c 1 _ (fun _ => rfl)) $$ [H1 HO]
  · isplitl [H1] <;> iassumption
  iintro ⟨H1, HO⟩
  iapply (step_out m K c 2 _ (fun _ => rfl)) $$ [H2 HO]
  · isplitl [H2] <;> iassumption
  iintro ⟨H2, HO⟩
  iapply (step_in m K c 2 _ (fun _ => rfl)) $$ [H2 HO]
  · isplitl [H2] <;> iassumption
  iintro ⟨H2, HO⟩
  iapply (step_out m K c 3 _ (fun _ => rfl)) $$ [H3 HO]
  · isplitl [H3] <;> iassumption
  iintro ⟨H3, HO⟩
  iapply (step_in m K c 3 _ (fun _ => rfl)) $$ [H3 HO]
  · isplitl [H3] <;> iassumption
  iintro ⟨H3, HO⟩
  iapply (step_out m K c 4 _ (fun _ => rfl)) $$ [H4 HO]
  · isplitl [H4] <;> iassumption
  iintro ⟨H4, HO⟩
  iapply (step_in m K c 4 _ (fun _ => rfl)) $$ [H4 HO]
  · isplitl [H4] <;> iassumption
  iintro ⟨H4, HO⟩
  iapply (step_out m K c 5 _ (fun _ => rfl)) $$ [H5 HO]
  · isplitl [H5] <;> iassumption
  iintro ⟨H5, HO⟩
  iapply (step_in m K c 5 _ (fun _ => rfl)) $$ [H5 HO]
  · isplitl [H5] <;> iassumption
  iintro ⟨H5, HO⟩
  iapply (step_out m K c 6 _ (fun _ => rfl)) $$ [H6 HO]
  · isplitl [H6] <;> iassumption
  iintro ⟨H6, HO⟩
  iapply (step_in m K c 6 _ (fun _ => rfl)) $$ [H6 HO]
  · isplitl [H6] <;> iassumption
  iintro ⟨H6, HO⟩
  imod (step_shut m K c 0) $$ [H0] with H0
  · iexact H0
  imod (step_shut m K c 1) $$ [H1] with H1
  · iexact H1
  imod (step_shut m K c 2) $$ [H2] with H2
  · iexact H2
  imod (step_shut m K c 3) $$ [H3] with H3
  · iexact H3
  imod (step_shut m K c 4) $$ [H4] with H4
  · iexact H4
  imod (step_shut m K c 5) $$ [H5] with H5
  · iexact H5
  imod (step_shut m K c 6) $$ [H6] with H6
  · iexact H6
  rw [wp_ret]; imodintro
  iapply Hk
  ihave Hend := (mend m c) $$ [H0 H1 H2 H3 H4 H5 H6 Hx Hy]
  · rw [bigSep_slots]
    isplitr [Hx Hy]
    · isplitl [H0]; · iexact H0
      isplitl [H1]; · iexact H1
      isplitl [H2]; · iexact H2
      isplitl [H3]; · iexact H3
      isplitl [H4]; · iexact H4
      isplitl [H5] <;> iassumption
    · isplitl [Hx] <;> iassumption
  icases Hend with ⟨Hz, Hx, Hy⟩
  isplitl [Hz]; · iexact Hz
  isplitl [Hx]; · iexact Hx
  isplitl [Hy] <;> iassumption

end Cert.AllToAll

end
-- ==== Proof.Run.lean ====
/-
The run of the whole program.

Every device's share of the exchange is dealt out at the start: its semaphores become the exchange's cells, and each right
to contribute goes to the device that makes the contribution. The body's run on each device then gives the run of the
program on all eight, with what the arrays hold and every counter at zero at the end.
-/
module

public import proofs.«01_k».proof.Proof.Body
public import Idealize.ShloMosaic.Lib.Pipeline.CollectiveSegs

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Gh ℕ

variable (m : (ℓ : Loc nD τ sig) → Buf (Elt F) ℓ) (ρ : Dev nD → PrngReg)

/-! ## What a device starts and ends with -/

/-- The one semaphore of the call that the kernel leaves alone. -/
abbrev spare : SemLoc sig := .dma (16 : Fin 17)

/-- A device's share of the exchange. -/
def share (c : Dev nD) : sProp 𝕄 :=
  iprop((∃ K, bigSep Finset.univ fun k => iprop(facts m K c k ∗ opening c k)) ∗ semVal ((c : Thread nD τ), spare) 0)
/-- With the credit for what it will be sent, and the order of the semaphores. -/
def start (c : Dev nD) : sProp 𝕄 := iprop(share m c ∗ (bigSep Finset.univ fun k => credit c k) ∗ levAts lvOn lv)
/-- What a device is left with. -/
def rest (c : Dev nD) : sProp 𝕄 := iprop(allZero c ∗ semVal ((c : Thread nD τ), spare) 0)

/-- The call's two windows: what they hold before and after the one run of the body, and what is owed. -/
def dats (_ : Fin 1) (c : Dev nD) : Dat τ (Elt F) Unit ℕ Gh ℕ cfg0 c where
  A w := (s₀ m ρ).mem ((cfg0.win w).arr.view.loc (c : Thread nD τ))
  after w _ := match w with
    | ⟨0, _⟩ => xIn m c
    | ⟨1, _⟩ => yOut m c
  Φ t := match t with
    | ⟨0, _⟩ => start m c
    | ⟨_ + 1, _⟩ => rest c
  q _ := fullShare
  owed t := match t with
    | ⟨0, _⟩ => debt c
    | ⟨_ + 1, _⟩ => 0

/-! ## The body as the call runs it -/

omit [FloatOps F] in
theorem owns_whole (c : Dev nD) (b : Ref sig .tc) (X : b.ty.Contents (Elt F)) :
    (owns (Ix := Unit) (Name := ℕ) (U := Gh) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer at given contents. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def before (c : Dev nD) : sProp 𝕄 :=
  iprop(start m c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))
def after (c : Dev nD) : sProp 𝕄 :=
  iprop(rest c ∗ (dats m ρ 0 c).owesAt () t0_0.succ ∗ staged c cc0_stg0_0 (xIn m c) ∗ staged c cc0_stg1_0 (yOut m c))

theorem body_meets (c : Dev nD) : before m ρ c ⊢ runs c (body (F := F)) (fun _ => after m ρ c) := by
  unfold before start share Dat.owesAt Pipeline.owesWithin
  iintro ⟨⟨⟨⟨%K, Hf⟩, Hs⟩, Hcr, Hlev⟩, ⟨%W, %hW, HO⟩, ⟨%d0, %g0, %hg0, Hx⟩, ⟨%d1, %g1, %hg1, Hy⟩⟩
  have hx : g0 = xIn m c := by rw [hg0]; unfold Dat.before; rw [if_pos (fetch0_0 t0_0)]; rfl
  subst hx
  iapply (body_run m K c g1 (fun _ => after m ρ c)) $$ [Hf Hcr Hlev HO Hx Hy]
  · isplitr [HO Hlev]
    · isplitl [Hf Hcr]
      · iapply (show iprop((bigSep Finset.univ fun k => iprop(facts m K c k ∗ opening c k)) ∗ bigSep Finset.univ fun k => credit c k) ⊢ dealt m K c from by
          unfold dealt; rw [← bigSep_sep']
          exact bigSep_mono fun k _ => BI.sep_assoc)
        isplitl [Hf] <;> iassumption
      isplitl [Hx] <;> iassumption
    · isplitl [HO]
      · unfold owing; iexists W; iexact HO
      iexact Hlev
  iintro ⟨Hz, Hx, Hy, HO⟩
  unfold after rest owing Dat.owesAt Pipeline.owesWithin
  icases HO with ⟨%W', HO⟩
  isplitl [Hz Hs]
  · isplitl [Hz] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hy

theorem body_obligation (c : Dev nD) : BodyObligation (dats (F := F) m ρ 0 c) (defs₀ (F := F)) Variants.none () Set.univ := fun t => by
  rw [show t = t0_0 from fin_N0 t, bigSep_W0, bigSep_W0]
  simp only [owns_whole]
  exact body_meets m ρ c

/-! ## The exchange's cells -/

theorem exCell_inj : Function.Injective fun cp : Dev nD × (Fin 3 × Fin 7) => exCell cp.1 cp.2 := fun a b h =>
  Prod.ext (congrArg (fun g : GSem nD τ sig => g.1.1) h) (exS_inj (congrArg Prod.snd h))

/-- All the exchange's cells, -/
def allCells : Finset (GSem nD τ sig) := Finset.univ.map ⟨_, exCell_inj⟩
/-- and the one contribution to each. -/
def allToks : Finset (GSem nD τ sig × ℕ × Unit) :=
  Finset.univ.map ⟨fun cp : Dev nD × (Fin 3 × Fin 7) => (exCell cp.1 cp.2, 0, ()), fun _ _ h => exCell_inj (congrArg Prod.fst h)⟩

/-- The ghost state the program begins with. -/
def u₀ : Gh := (initOf (Pipeline.cells cfgs cellOf_inj) (Pipeline.launchToks cfgs cellOf_inj), initOf allCells allToks)

/-- What it makes of each device. -/
def minted (c : Dev nD) : sProp 𝕄 :=
  iprop((bigSep Finset.univ fun p => roundState exE (exRd m) (exCell c p) 0)
    ∗ (bigSep Finset.univ fun p => iprop(at_ c p 0 ∗ reached exE (exCell c p) 0)) ∗ bigSep Finset.univ fun p => tok c p)

omit [FloatOps F] in
/-- A family over the twenty-one cells of a device, slot by slot. -/
theorem by_slot (Φ : Fin 3 × Fin 7 → sProp 𝕄) :
    bigSep Finset.univ Φ = bigSep Finset.univ fun k => iprop(Φ (0, k) ∗ Φ (1, k) ∗ Φ (2, k)) := by
  rw [bigSep_univ_prod, BI.bigSep_univ_comm]
  exact bigSep_congr fun k _ => bigSep_univ_eq_bigSepL [0, 1, 2] (by decide) (by decide) _

omit [FloatOps F] in
theorem mint : BI.own (exE (initOf allCells allToks)) ⊢ (|==> bigSep Finset.univ (minted m) : sProp 𝕄) := by
  have hX (Φ : GSem nD τ sig → sProp 𝕄) : bigSep allCells Φ = bigSep Finset.univ fun c : Dev nD => bigSep Finset.univ fun p => Φ (exCell c p) := by
    unfold allCells; rw [bigSep_map, bigSep_univ_prod]; rfl
  have hT : bigSep allToks (fun x => (dutyTok exE x.1 x.2.1 x.2.2 : sProp 𝕄)) = bigSep Finset.univ fun c : Dev nD => bigSep Finset.univ fun p => tok c p := by
    unfold allToks; rw [bigSep_map, bigSep_univ_prod]; rfl
  iintro HX
  imod (Rounds.fund exE (exRd m) allCells allToks) $$ HX with ⟨Hst, Hr, Hat, Htok⟩
  imodintro
  ihave Hst' := (Entails.of_eq (hX fun g => roundState exE (exRd m) g 0)) $$ Hst
  ihave Hat' := (Entails.of_eq (hX fun g => atPos exE g 0 ∅ 0)) $$ Hat
  ihave Hr' := (Entails.of_eq (hX fun g => reached exE g 0)) $$ Hr
  ihave Htok' := (Entails.of_eq hT) $$ Htok
  unfold minted; simp only [bigSep_sep']
  isplitl [Hst']; · iexact Hst'
  isplitl [Hat' Hr']
  · isplitl [Hat'] <;> iassumption
  iexact Htok'

/-! ### The semaphores of the call -/

/-- The call's own semaphores, besides the staging ones: the spare one in the place of the mesh barrier, which is not the
    call's own, then the other twenty of the exchange. -/
def osem (i : Fin 21) : SemLoc sig := if i = 0 then spare else exS ((finProdFinEquiv (m := 3) (n := 7)).symm i)

theorem ownSemFacts : Pipeline.OwnSemFacts cfg0.spec osem := by decide

omit [FloatOps F] in
theorem barrier_only (c : Dev nD) : (unscopedSems0 c : sProp 𝕄) = semVal (exCell c (0, 0)) 0 := by
  unfold unscopedSems0; rw [bigSep_eq_bigSepL_of_eq [exS (0, 0)] (by decide) (by decide)]; rfl

omit [FloatOps F] in
/-- The call's own semaphores and the mesh barrier are the exchange's twenty-one and the spare one. -/
theorem sems_eq (c : Dev nD) :
    iprop(unscopedSems0 c ∗ Pipeline.ownSems0 (Ix := Unit) (Name := ℕ) (U := Gh) (Lvl := ℕ) (Val := Elt F) (τ := τ) osem c)
      = (iprop((bigSep Finset.univ fun p => semVal (exCell c p) 0) ∗ semVal ((c : Thread nD τ), spare) 0) : sProp 𝕄) := by
  have h1 : (Pipeline.ownSems0 (Ix := Unit) (Name := ℕ) (U := Gh) (Lvl := ℕ) (Val := Elt F) (τ := τ) osem c : sProp 𝕄)
      = bigSep Finset.univ fun i : Fin 21 => semVal ((c : Thread nD τ), osem i) 0 := rfl
  rw [barrier_only, h1, bigSep_univ_equiv (finProdFinEquiv (m := 3) (n := 7)).symm (fun p => (semVal (exCell c p) 0 : sProp 𝕄)),
    bigSep_univ_at _ (0 : Fin 21), bigSep_univ_at (fun i => semVal (exCell c ((finProdFinEquiv (m := 3) (n := 7)).symm i)) 0) (0 : Fin 21),
    bigSep_congr (s := Finset.univ.erase (0 : Fin 21)) fun i hi => show (semVal ((c : Thread nD τ), osem i) 0 : sProp 𝕄)
      = semVal (exCell c ((finProdFinEquiv (m := 3) (n := 7)).symm i)) 0 by unfold osem; rw [if_neg (Finset.ne_of_mem_erase hi)]]
  rw [show osem 0 = spare from if_pos rfl, show (finProdFinEquiv (m := 3) (n := 7)).symm 0 = (0, 0) from by decide]
  refine Entails.antisymm (show (iprop(_ ∗ _ ∗ _) : sProp 𝕄) ⊢ iprop((_ ∗ _) ∗ _) from ?_) (show (iprop((_ ∗ _) ∗ _) : sProp 𝕄) ⊢ iprop(_ ∗ _ ∗ _) from ?_)
  · iintro ⟨Hb, Hs, Hr⟩
    isplitr [Hs]
    · isplitl [Hb] <;> iassumption
    iexact Hs
  · iintro ⟨⟨Hb, Hr⟩, Hs⟩
    isplitl [Hb]; · iexact Hb
    isplitl [Hs] <;> iassumption

omit [FloatOps F] in
theorem zero_eq (c : Dev nD) : (allZero c : sProp 𝕄) = bigSep Finset.univ fun p => semVal (exCell c p) 0 :=
  (by_slot (F := F) fun p => semVal (exCell c p) 0).symm

/-! ### Dealing -/

/-- The cells of device `c` recorded, and the rest of what it is made. -/
def recorded (c : Dev nD) : sProp 𝕄 :=
  iprop((bigSep Finset.univ fun p => iprop(∃ κ : ℕ, cellInv exE (exRd m) κ (exCell c p)))
    ∗ (bigSep Finset.univ fun p => iprop(at_ c p 0 ∗ reached exE (exCell c p) 0)) ∗ (bigSep Finset.univ fun p => tok c p)
    ∗ semVal ((c : Thread nD τ), spare) 0)

omit [FloatOps F] in
theorem record (c : Dev nD) :
    iprop(Pipeline.ownSems0 (Ix := Unit) (Name := ℕ) (U := Gh) (Lvl := ℕ) (Val := Elt F) (τ := τ) osem c ∗ unscopedSems0 c ∗ minted m c)
      ⊢ |={Set.univ}=> recorded m c := by
  unfold minted recorded
  iintro ⟨Hos, Hus, Hst, Hat, Htok⟩
  ihave Hv := (Entails.of_eq (sems_eq (F := F) c)) $$ [Hos Hus]
  · isplitl [Hus] <;> iassumption
  icases Hv with ⟨Hv, Hs⟩
  imod (show iprop((bigSep Finset.univ fun p => semVal (exCell c p) 0) ∗ bigSep Finset.univ fun p => roundState exE (exRd m) (exCell c p) 0)
      ⊢ (|={Set.univ}=> bigSep Finset.univ fun p => iprop(∃ κ : ℕ, cellInv exE (exRd m) κ (exCell c p)) : sProp 𝕄) from by
        rw [← bigSep_sep']
        exact (bigSep_mono fun p _ => (Rounds.body_intro exE (exRd m) (exCell c p)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What every device knows: all the records, and that every cell is at its first round. -/
def common (K : Names) : sProp 𝕄 :=
  iprop((bigSep Finset.univ fun cp : Dev nD × (Fin 3 × Fin 7) => known m K cp.1 cp.2)
    ∗ bigSep Finset.univ fun cp : Dev nD × (Fin 3 × Fin 7) => reached exE (exCell cp.1 cp.2) 0)
instance common_persistent (K : Names) : BI.Persistent (common m K) := by unfold common; infer_instance

omit [FloatOps F] in
theorem common_known (K : Names) (c : Dev nD) (p : Fin 3 × Fin 7) : common m K ⊢ known m K c p := by
  unfold common; iintro ⟨H, -⟩
  iapply (show _ ⊢ known m K c p from bigSep_elim (Φ := fun cp : Dev nD × (Fin 3 × Fin 7) => known m K cp.1 cp.2) (Finset.mem_univ (c, p))); iexact H
omit [FloatOps F] in
theorem common_reached (K : Names) (c : Dev nD) (p : Fin 3 × Fin 7) : common m K ⊢ reached exE (exCell c p) 0 := by
  unfold common; iintro ⟨-, H⟩
  iapply (show _ ⊢ (reached exE (exCell c p) 0 : sProp 𝕄) from
    bigSep_elim (Φ := fun cp : Dev nD × (Fin 3 × Fin 7) => (reached exE (exCell cp.1 cp.2) 0 : sProp 𝕄)) (Finset.mem_univ (c, p))); iexact H

omit [FloatOps F] in
theorem common_facts (K : Names) (c : Dev nD) (k : Fin 7) : common m K ⊢ facts m K c k := by
  unfold facts
  iintro #H
  isplitr
  · isplitr; · iapply (common_known m K c (0, k)); iexact H
    isplitr; · iapply (common_known m K c (1, k)); iexact H
    isplitr; · iapply (common_known m K c (2, k)); iexact H
    isplitr; · iapply (common_known m K (peer k c) (0, k)); iexact H
    iapply (common_known m K (peer k c) (2, k)); iexact H
  isplitr; · iapply (common_reached m K (peer k c) (0, k)); iexact H
  isplitr; · iapply (common_reached m K (peer k c) (2, k)); iexact H
  isplitr; · iapply (common_reached m K c (1, k)); iexact H
  iapply (common_reached m K c (2, k)); iexact H

omit [FloatOps F] in
/-- What is persistent goes to every member of a family. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- A family over devices and slots, turned round to the partner. -/
theorem swap_all (Φ : Dev nD → Fin 7 → sProp 𝕄) :
    (bigSep Finset.univ fun c => bigSep Finset.univ fun k => Φ c k) = bigSep Finset.univ fun c => bigSep Finset.univ fun k => Φ (peer k c) k := by
  rw [BI.bigSep_univ_comm, BI.bigSep_univ_comm (fun c k => Φ (peer k c) k)]
  exact bigSep_congr fun k _ => bigSep_univ_equiv (swapAt k) fun c => Φ c k

omit [FloatOps F] in
/-- The positions and the rights to contribute, as each device takes them. -/
theorem deal :
    iprop((bigSep Finset.univ fun c : Dev nD => bigSep Finset.univ fun p => at_ c p 0) ∗ (bigSep Finset.univ fun c : Dev nD => bigSep Finset.univ fun p => tok c p))
      ⊢ (bigSep Finset.univ fun c : Dev nD => bigSep Finset.univ fun k => opening c k : sProp 𝕄) := by
  have h (Φ : Dev nD → Fin 3 × Fin 7 → sProp 𝕄) : (bigSep Finset.univ fun c => bigSep Finset.univ (Φ c))
      = iprop((bigSep Finset.univ fun c => bigSep Finset.univ fun k => Φ c (0, k)) ∗ (bigSep Finset.univ fun c => bigSep Finset.univ fun k => Φ c (1, k))
        ∗ bigSep Finset.univ fun c => bigSep Finset.univ fun k => Φ c (2, k)) := by
    rw [bigSep_congr fun c _ => by_slot (Φ c)]; simp only [bigSep_sep']
  unfold opening
  rw [h fun c p => at_ c p 0, h fun c p => tok c p, swap_all fun c k => tok c (0, k), swap_all fun c k => tok c (2, k)]
  simp only [bigSep_sep']
  exact Entails.refl _

omit [FloatOps F] in
theorem regroup : (bigSep Finset.univ (recorded m) : sProp 𝕄) ⊢ bigSep Finset.univ (share m) := by
  have h1 : (bigSep Finset.univ (recorded m) : sProp 𝕄)
      = iprop((bigSep Finset.univ fun cp : Dev nD × (Fin 3 × Fin 7) => iprop(∃ κ : ℕ, cellInv exE (exRd m) κ (exCell cp.1 cp.2)))
        ∗ ((bigSep Finset.univ fun c : Dev nD => bigSep Finset.univ fun p => at_ c p 0)
          ∗ bigSep Finset.univ fun cp : Dev nD × (Fin 3 × Fin 7) => reached exE (exCell cp.1 cp.2) 0)
        ∗ (bigSep Finset.univ fun c : Dev nD => bigSep Finset.univ fun p => tok c p)
        ∗ bigSep Finset.univ fun c : Dev nD => semVal ((c : Thread nD τ), spare) 0) := by
    unfold recorded; simp only [bigSep_sep', bigSep_univ_prod (fun cp : Dev nD × (Fin 3 × Fin 7) => _)]
  rw [h1]
  iintro ⟨HI, ⟨Hat, #HR⟩, Htok, Hs⟩
  ihave HK := (BI.bigSep_exists_pi Finset.univ (fun (cp : Dev nD × (Fin 3 × Fin 7)) (κ : ℕ) => (cellInv exE (exRd m) κ (exCell cp.1 cp.2) : sProp 𝕄))) $$ HI
  icases HK with ⟨%K, #HI⟩
  ihave Ho := (deal (F := F)) $$ [Hat Htok]
  · isplitl [Hat] <;> iassumption
  iapply (to_each (R := common m K) (Φ := fun c => iprop((bigSep Finset.univ fun k => opening c k) ∗ semVal ((c : Thread nD τ), spare) 0)) fun c _ => by
    unfold share
    iintro ⟨#H, Ho, Hs⟩
    isplitr [Hs]
    · iexists K
      iapply (to_each (R := common m K) (Φ := fun k => opening c k) fun k _ => sep_mono_left (common_facts m K c k))
      isplitr; · iexact H
      iexact Ho
    iexact Hs)
  isplitr
  · unfold common; isplitl; · iexact HI
    iexact HR
  · rw [bigSep_sep']; isplitl [Ho] <;> iassumption

omit [FloatOps F] in
theorem deal_all :
    (bigSep Finset.univ fun c => iprop(Pipeline.ownSems0 (Ix := Unit) (Name := ℕ) (U := Gh) (Lvl := ℕ) (Val := Elt F) (τ := τ) osem c ∗ unscopedSems0 c ∗ minted m c) : sProp 𝕄)
      ⊢ |={Set.univ}=> bigSep Finset.univ (share m) :=
  ((bigSep_mono fun c _ => record m c).trans (bigSep_fupd _ _)).trans (BI.fupd_mono (regroup m))

/-! ### The credit -/

theorem exCell_eq_iff {c d : Dev nD} {p q : Fin 3 × Fin 7} : exCell c p = exCell d q ↔ c = d ∧ p = q :=
  ⟨fun h => Prod.ext_iff.mp (exCell_inj (a₁ := (c, p)) (a₂ := (d, q)) h), fun h => by rw [h.1, h.2]⟩

theorem peer_eq_iff {c d : Dev nD} {k : Fin 7} : c = peer k d ↔ d = peer k c :=
  ⟨fun h => by rw [h, peer_invol], fun h => by rw [h, peer_invol]⟩

/-- What one contribution adds at a cell of the exchange. -/
theorem due_at (c d : Dev nD) (p : Fin 3 × Fin 7) (i : Fin 3) (j : Fin 7) (n : ℕ) :
    (tallyAt (exCell (peer j d) (i, j)) () n : CellTallies nD τ sig Unit) (exCell c p) () = if p = (i, j) ∧ d = peer j c then n else 0 := by
  rw [tallyAt_apply]
  refine if_congr ?_ rfl rfl
  rw [exCell_eq_iff, peer_eq_iff]
  exact ⟨fun h => ⟨h.1.2, h.1.1⟩, fun h => ⟨⟨h.2, h.1⟩, rfl⟩⟩

theorem copies_at (c d : Dev nD) (i : Fin 3) (k : Fin 7) : ∀ ks : List (Fin 7), ks.Nodup →
    copiesDue d ks (exCell c (i, k)) () = if (i = 2 ∧ k ∈ ks) ∧ d = peer k c then N else 0
  | [], _ => by rw [if_neg (by simp)]; rfl
  | j :: ks, h => by
    show copiesDue d ks (exCell c (i, k)) () + (tallyAt (exCell (peer j d) (2, j)) () N : CellTallies nD τ sig Unit) (exCell c (i, k)) () = _
    rw [copies_at c d i k ks (List.nodup_cons.mp h).2, due_at]
    have hj := (List.nodup_cons.mp h).1
    by_cases hk : k = j
    · subst hk
      rw [if_neg (fun e => hj e.1.2), Nat.zero_add]
      exact if_congr (by simp) rfl rfl
    · rw [if_neg (c := (i, k) = (2, j) ∧ _) (fun e => hk (congrArg Prod.snd e.1)), Nat.add_zero]
      exact if_congr (by simp [hk]) rfl rfl

theorem anns_at (c d : Dev nD) (i : Fin 3) (k : Fin 7) : ∀ ks : List (Fin 7), ks.Nodup →
    annsDue d ks (exCell c (i, k)) () = (if (i = 2 ∧ k ∈ slots) ∧ d = peer k c then N else 0) + if (i = 0 ∧ k ∈ ks) ∧ d = peer k c then 1 else 0
  | [], _ => by rw [if_neg (c := (i = 0 ∧ _) ∧ _) (by simp)]; exact copies_at c d i k slots (by decide)
  | j :: ks, h => by
    show annsDue d ks (exCell c (i, k)) () + (tallyAt (exCell (peer j d) (0, j)) () 1 : CellTallies nD τ sig Unit) (exCell c (i, k)) () = _
    rw [anns_at c d i k ks (List.nodup_cons.mp h).2, due_at, Nat.add_assoc]
    refine congrArg _ ?_
    have hj := (List.nodup_cons.mp h).1
    by_cases hk : k = j
    · subst hk
      rw [if_neg (fun e => hj e.1.2), Nat.zero_add]
      exact if_congr (by simp) rfl rfl
    · rw [if_neg (c := (i, k) = (0, j) ∧ _) (fun e => hk (congrArg Prod.snd e.1)), Nat.add_zero]
      exact if_congr (by simp [hk]) rfl rfl

theorem mem_slots : ∀ k : Fin 7, k ∈ slots := by decide

/-- The devices' debts add up, at each cell, to what its owner waits for: an announcement, -/
theorem launch_ann (c : Dev nD) (k : Fin 7) :
    tallyOn (exCell c (0, k)) (launchCredit (Pipeline.owing debt) 0 (exCell c (0, k))) = (tallyAt (exCell c (0, k)) () 1 : CellTallies nD τ sig Unit) := by
  unfold tallyAt; refine congrArg _ (Finsupp.ext fun u => ?_); cases u
  rw [Pipeline.launchCredit_owing, Finsupp.single_eq_same, Finset.sum_congr rfl fun d _ => show debt d (exCell c (0, k)) () = if d = peer k c then 1 else 0 from
    (anns_at c d 0 k slots (by decide)).trans (by
      rw [if_neg (c := ((0 : Fin 3) = 2 ∧ _) ∧ _) (fun h => absurd h.1.1 (by decide)), Nat.zero_add]
      exact if_congr ⟨fun h => h.2, fun h => ⟨⟨rfl, mem_slots k⟩, h⟩⟩ rfl rfl), Finset.sum_ite_eq' Finset.univ (peer k c) fun _ => 1, if_pos (Finset.mem_univ _)]
/-- or a copy. -/
theorem launch_copy (c : Dev nD) (k : Fin 7) :
    tallyOn (exCell c (2, k)) (launchCredit (Pipeline.owing debt) 0 (exCell c (2, k))) = (tallyAt (exCell c (2, k)) () N : CellTallies nD τ sig Unit) := by
  unfold tallyAt; refine congrArg _ (Finsupp.ext fun u => ?_); cases u
  rw [Pipeline.launchCredit_owing, Finsupp.single_eq_same, Finset.sum_congr rfl fun d _ => show debt d (exCell c (2, k)) () = if d = peer k c then N else 0 from
    (anns_at c d 2 k slots (by decide)).trans (by
      rw [if_neg (c := ((2 : Fin 3) = 0 ∧ _) ∧ _) (fun h => absurd h.1.1 (by decide)), Nat.add_zero]
      exact if_congr ⟨fun h => h.2, fun h => ⟨⟨rfl, mem_slots k⟩, h⟩⟩ rfl rfl), Finset.sum_ite_eq' Finset.univ (peer k c) fun _ => N, if_pos (Finset.mem_univ _)]

omit [FloatOps F] in
theorem credits (c : Dev nD) : (Pipeline.launchCred debt c : sProp 𝕄) ⊢ bigSep Finset.univ fun k => credit c k := by
  unfold Pipeline.launchCred
  refine (BI.bigSep_subset (Finset.subset_univ (Finset.univ.map ⟨exS, exS_inj⟩))).trans ?_
  rw [bigSep_map, by_slot]
  refine bigSep_mono fun k _ => ?_
  show iprop(cred (tallyOn (exCell c (0, k)) (launchCredit (Pipeline.owing debt) 0 (exCell c (0, k)))) ∗ _
    ∗ cred (tallyOn (exCell c (2, k)) (launchCredit (Pipeline.owing debt) 0 (exCell c (2, k))))) ⊢ credit c k
  rw [launch_ann, launch_copy]
  unfold credit
  iintro ⟨H0, -, H2⟩
  isplitl [H0] <;> iassumption

/-! ### The run -/

theorem share_full (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts lvOn lv
        ∗ Pipeline.launchCred debt c ∗ prngReg c (ρ c) ∗ share m c)
      ⊢ |={Set.univ}=> iprop(start m c ∗ emp) := by
  iintro ⟨-, Hlev, Hcr, -, Hs⟩
  ihave Hc := (credits (F := F) c) $$ Hcr
  imodintro
  unfold start
  isplitl
  · isplitl [Hs]; · iexact Hs
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m c from rfl]
  iintro ⟨Hs, -, -⟩
  iexact Hs

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = rest c from rfl, scopedRest0_eq]
  unfold rest
  rw [zero_eq, ← sems_eq]
  iintro ⟨Hu, Ho⟩
  isplitl [Hu]; · iexact Hu
  isplitl [Ho]; · iexact Ho
  iempintro

theorem waits (c : Dev nD) : (levAts lvOn lv : sProp 𝕄) ⊢ Pipeline.cellsWaits cfgs (dats m ρ) () 0 c :=
  Pipeline.cellsWaits_intro cfgs (dats m ρ) () 0 c fun w s t =>
    may_stage c _ (by fin_cases w <;> fin_cases s <;> decide) _ (by
      rcases t with ⟨_ | _, ht⟩
      · exact Or.inl rfl
      · exact Or.inr rfl)

/-- What an array of the call holds at the end. -/
def finalA (c : Dev nD) (w : Fin cfg0.W) : Buf (Elt F) ((cfg0.win w).arr.view.loc (c : Thread nD τ)) := (dats m ρ 0 c).arrAt w cfg0.N

set_option maxRecDepth 8000 in
/-- On the eight devices, for any float values, from any memory with all counters at zero: the program ends, whatever
    the order in which the devices run; each device's arrays then hold what `finalA` says, and every counter is at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) pipeE defs₀ Variants.none m ρ main
    (hmain := fun _ => rfl)
    (hbody := body_obligation m ρ) (hne := block_pos0) (harr := arr_whole0) (hstage := stage_whole0) (hshare := share_full m ρ)
    (hdistinct := winFacts0.arr_inj)
    (O₀ := debt) (howed₀ := fun _ => rfl) (howedN := fun _ => rfl)
    (L := lvOn) (lv := lv) (hL := lvOn_of_ne) (hwaits := waits m ρ)
    (G := minted m) (G' := share m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := deal_all m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllToAll

end
-- ==== Proof.Value.lean ====
/-
What the kernel leaves in memory.

The result on each device is the block of columns of the whole array that belongs to the device, when each device's argument
is the block of rows that belongs to it.
-/
module

public import proofs.«01_k».proof.Proof.Run
public import Idealize.ShloMosaic.Lib.Layout
public import Idealize.ShloMosaic.Lib.Pipeline.ValueKit.Geometry

@[expose] public section

noncomputable section

namespace Cert.AllToAll

open Cert.KernelIdeal Cert.KernelIdeal.Gen
open Idealize.ShloMosaic Idealize.ShloMosaic.TcCoe Idealize.SL.Sem
open Idealize.ShloMosaic.Pipeline (Dat Window)

variable {F : FTy → Type} [FloatOps F]
variable (m : (ℓ : Loc nD τ sig) → Buf (Elt F) ℓ) (ρ : Dev nD → PrngReg)

omit [FloatOps F] in
/-- The staged `x` is the device's whole argument. -/
theorem xIn_apply (c : Dev nD) (i : S256x2048.Idx) : xIn m c i = m ((c : Thread nD τ).loc main_arg0) i := by
  show m ((c : Thread nD τ).loc main_arg0) ((win0_0.rect (0 : Fin 1)).emb i) = m ((c : Thread nD τ).loc main_arg0) i
  exact congrArg _ (funext fun a => Fin.ext (Window.rect_emb_val_of_index_zero win0_0 (0 : Fin 1) a rfl i))

/-- The argument array is not written, -/
theorem arg_kept (c : Dev nD) : finalA m ρ c (0 : Fin 2) = m ((c : Thread nD τ).loc main_arg0) :=
  (dats m ρ 0 c).arrAt_in (0 : Fin 2) rfl _

/-- and the result array is the staged result, written back once and whole. -/
theorem result_written (c : Dev nD) : finalA m ρ c (1 : Fin 2) = yOut m c :=
  (dats m ρ 0 c).arrAt_eq_of_after_last (1 : Fin 2) t0_0 (by decide +kernel) (yOut m c) fun _ => rfl

omit [FloatOps F] in
/-- An element of the result on device `c` is an element of the whole array `X`: its row is the same, and its column is counted
    from where the device's block of columns begins. -/
theorem yOut_block (X : (⟨2, ![2048, 2048]⟩ : Shape).Idx → Elt F .f32)
    (hX : ∀ c : Dev nD, m ((c : Thread nD τ).loc main_arg0) = Layout.block ⟨2, ![256, 2048]⟩ ⟨2, ![2048, 2048]⟩ 0 8 c X) (c : Dev nD) :
    yOut m c = Layout.block ⟨2, ![2048, 256]⟩ ⟨2, ![2048, 2048]⟩ 1 8 c X := by
  funext i
  show xIn m (rowDev i) (srcIx c i) = _
  rw [xIn_apply, hX]
  refine congrArg X (funext fun a => Fin.ext ?_)
  match a with
  | ⟨0, _⟩ => show (i 0).val / 256 * 256 + (i 0).val % 256 = (i 0).val; omega
  | ⟨1, _⟩ => show 256 * c.val + (i 1).val = c.val * 256 + (i 1).val; omega

/-- The program on the eight devices: it ends with each device's argument as it was, each device's result its block of
    columns, and every counter at zero. -/
theorem run_values : θ_run defs (onTc (τ := τ) (main (F := F))) ⟨m, fun _ => 0, ρ⟩
    (fun r => (∀ c : Dev nD, r.2.mem ((c : Thread nD τ).loc main_v1) = yOut m c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (result_written m ρ c), (h.1 c (0 : Fin 2)).trans (arg_kept m ρ c)⟩, h.2⟩)
    (run_main m ρ)

end Cert.AllToAll

end
-- ==== Proof.Whole.lean ====
/-
The reference returns its argument.

Its program has no operation, so it ends as it began.
-/
module

public import proofs.«01_k».proof.Proof.Gen.ReferenceIdeal
public import Idealize.ShloMosaic.Lib.StableHlo.Run
public import Idealize.ShloMosaic.Lib.Quiescent

@[expose] public section

noncomputable section

namespace Cert.AllToAll

open Cert.ReferenceIdeal Cert.ReferenceIdeal.Gen
open Idealize.ShloMosaic Idealize.ShloMosaic.StableHlo Idealize.SL.Sem

/-- For any float values, from any memory with all counters at zero: the reference ends, its array as it was and every
    counter at zero. -/
theorem run_whole {F : FTy → Type} [FloatOps F] (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems (by decide) r.2⟩)
    (run_seq (by decide) (by decide) defs main (fun _ => []) (fun _ => rfl) (fun _ => trivial) m ρ)

end Cert.AllToAll

end
-- ==== Proof.lean ====
/-
The kernel swaps, on eight devices, the blocks of rows of an array for its blocks of columns, and is proved to do so.

`Proof/Exchange.lean` says which device swaps with which, what each holds and what passes over each semaphore;
`Proof/Steps.lean` and `Proof/Body.lean` run the kernel's body on one device; `Proof/Run.lean` the program on all eight;
`Proof/Value.lean` reads off what it leaves; `Proof/Whole.lean` runs the reference. Here the claims are put together.
-/
module

public import proofs.«01_k».proof.Defs
public import proofs.«01_k».proof.Proof.Gen.Kernel
public import proofs.«01_k».proof.Proof.Value
public import proofs.«01_k».proof.Proof.Whole

@[expose] public section

noncomputable section

namespace Cert.Proof

open Idealize.ShloMosaic Idealize.SL.Sem Cert.AllToAll

/-- The two programs' kernels are the same text. -/
theorem same_defs : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => exact rfl

/-- The kernel ends with its argument unchanged and every semaphore at zero. Its text is that of the ideal program, run
    here on bit patterns. -/
theorem frame_kernel : Cert.quiescent_Kernel := fun m ρ _ => by
  unfold Cert.Kernel.defs
  rw [same_defs]
  exact (θ_run Cert.KernelIdeal.defs _ _).mono (fun _ h => ⟨fun c => (h.1 c).2, h.2⟩) (run_values (F := Bits) m ρ)

/-- So does the ideal program, run on exact values, -/
theorem frame_ideal : Cert.quiescent_KernelIdeal := fun m ρ _ =>
  (θ_run Cert.KernelIdeal.defs _ _).mono (fun _ h => ⟨fun c => (h.1 c).2, h.2⟩) (run_values (F := Ideal) m ρ)

/-- and the reference. -/
theorem frame_reference : Cert.quiescent_ReferenceIdeal := fun m ρ _ => run_whole (F := Ideal) m ρ

/-- If every device's argument is its block of rows of the reference's array, every device's result is its block of columns
    of the reference's result. -/
theorem values_agree : Cert.algebraic_KernelIdeal_ReferenceIdeal := fun m ρ m' ρ' _ hx =>
  ⟨_, (θ_run Cert.KernelIdeal.defs _ _).mono (fun _ h c => ⟨(h.1 c).1.trans (yOut_block m _ hx c), (h.1 c).2⟩) (run_values (F := Ideal) m ρ),
    (θ_run Cert.ReferenceIdeal.defs _ _).mono (fun _ h => ⟨h.1 0, h.1 0⟩) (run_whole (F := Ideal) m' ρ')⟩

/-- All the claims. -/
theorem claim : Cert.Claim :=
  ⟨Cert.Kernel.Gen.facts, Cert.KernelIdeal.Gen.facts, Cert.ReferenceIdeal.Gen.facts,
    frame_kernel, frame_ideal, frame_reference, trivial, values_agree⟩

end Cert.Proof

end
